-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![4, 4096, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x2048 : Shape := ⟨2, ![4096, 2048]⟩
abbrev S1024x1024 : Shape := ⟨2, ![1024, 1024]⟩
abbrev S2 : Shape := ⟨1, ![2]⟩
abbrev S2x3x2 : Shape := ⟨3, ![2, 3, 2]⟩
abbrev S_ : Shape := ⟨0, ![]⟩
abbrev S1x1x1 : Shape := ⟨3, ![1, 1, 1]⟩
abbrev S512x1024 : Shape := ⟨2, ![512, 1024]⟩
abbrev S1 : Shape := ⟨1, ![1]⟩
abbrev S1x1024x1024 : Shape := ⟨3, ![1, 1024, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1x4096x2048, .f32⟩
  | .hbm, ⟨1, _⟩ => ⟨S4096x2048, .f32⟩
  | .local _ .vmem, ⟨0, _⟩ => ⟨S4096x2048, .f32⟩
  | .local _ .vmem, ⟨1, _⟩ => ⟨S1024x1024, .f32⟩
  | .local _ .vmem, ⟨2, _⟩ => ⟨S1024x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c0_i32_10
  let c4_i32_11 : BitVec 32 := 4#32
  let v14 : BitVec 32 := Scalar.addi v13 c4_i32_11
  let c4_i32_12 : BitVec 32 := 4#32
  let v15 : BitVec 32 := Scalar.remsi v14 c4_i32_12
  let c1024_i32_14 : BitVec 32 := 1024#32
  let v18 : BitVec 32 := Scalar.muli v15 c1024_i32_14
  let v19 : BitVec 32 := Scalar.addi v18 c0_i32_15
  let c0_i32_25 : BitVec 32 := 0#32
  ![v19.toNat, 0]
def k0_off1_at (r : Fin 8) : BitVec 32 × BitVec 32 :=
  if r.val < 4 then
    if r.val < 2 then
      if r.val < 1 then
        (0#32, 0#32)
      else
        (0#32, 512#32)
    else
      if r.val < 3 then
        (4294967295#32, 0#32)
      else
        (4294967295#32, 512#32)
  else
    if r.val < 6 then
      if r.val < 5 then
        (4294967294#32, 0#32)
      else
        (4294967294#32, 512#32)
    else
      if r.val < 7 then
        (1#32, 0#32)
      else
        (1#32, 512#32)
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_23 : BitVec 32 := 1#32
  let v20 : BitVec 32 := Scalar.muli v7 c1_i32_23
  let v21 : BitVec 32 := Scalar.addi c0_i32_24 v20
  v21.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_42 : BitVec 32 := 1#32
  let v37 : BitVec 32 := Scalar.muli v7 c1_i32_42
  let v38 : BitVec 32 := Scalar.addi c0_i32_43 v37
  v38.toNat
def k0_off2 (d0 : Dev nD) (c0_i32_48 : BitVec 32) (c0_i32_54 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.addi v2 c0_i32_48
  let c4_i32_49 : BitVec 32 := 4#32
  let v48 : BitVec 32 := Scalar.addi v47 c4_i32_49
  let c4_i32_50 : BitVec 32 := 4#32
  let v49 : BitVec 32 := Scalar.remsi v48 c4_i32_50
  let c1024_i32_53 : BitVec 32 := 1024#32
  let v52 : BitVec 32 := Scalar.muli v49 c1024_i32_53
  let v53 : BitVec 32 := Scalar.addi v52 c0_i32_54
  let c1024_i32_64 : BitVec 32 := 1024#32
  ![v53.toNat, 1024]
def k0_off2_at (r : Fin 8) : BitVec 32 × BitVec 32 :=
  if r.val < 4 then
    if r.val < 2 then
      if r.val < 1 then
        (0#32, 0#32)
      else
        (0#32, 512#32)
    else
      if r.val < 3 then
        (1#32, 0#32)
      else
        (1#32, 512#32)
  else
    if r.val < 6 then
      if r.val < 5 then
        (2#32, 0#32)
      else
        (2#32, 512#32)
    else
      if r.val < 7 then
        (4294967295#32, 0#32)
      else
        (4294967295#32, 512#32)
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_62 : BitVec 32 := 1#32
  let v54 : BitVec 32 := Scalar.muli v5 c1_i32_62
  let v55 : BitVec 32 := Scalar.addi c0_i32_63 v54
  v55.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_82 : BitVec 32 := 1#32
  let v71 : BitVec 32 := Scalar.muli v5 c1_i32_82
  let v72 : BitVec 32 := Scalar.addi c0_i32_83 v71
  v72.toNat
def k0_off3 (d0 : Dev nD) (c_m1_i32 : BitVec 32) : Fin 3 → Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c_m1_i32
  let c4_i32_88 : BitVec 32 := 4#32
  let v82 : BitVec 32 := Scalar.addi v81 c4_i32_88
  let c4_i32_89 : BitVec 32 := 4#32
  let v83 : BitVec 32 := Scalar.remsi v82 c4_i32_89
  let c1024_i32_90 : BitVec 32 := 1024#32
  let v84 : BitVec 32 := Scalar.muli v83 c1024_i32_90
  let c0_i32_93 : BitVec 32 := 0#32
  ![0, v84.toNat, 0]
def k0_off4 (d0 : Dev nD) (c1_i32_94 : BitVec 32) : Fin 3 → Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v89 : BitVec 32 := Scalar.addi v2 c1_i32_94
  let c4_i32_95 : BitVec 32 := 4#32
  let v90 : BitVec 32 := Scalar.addi v89 c4_i32_95
  let c4_i32_96 : BitVec 32 := 4#32
  let v91 : BitVec 32 := Scalar.remsi v90 c4_i32_96
  let c1024_i32_97 : BitVec 32 := 1024#32
  let v92 : BitVec 32 := Scalar.muli v91 c1024_i32_97
  let c1024_i32_100 : BitVec 32 := 1024#32
  ![0, v92.toNat, 1024]
def k0_off5 (d0 : Dev nD) (c_m1_i32_129 : BitVec 32) (c0_i32_133 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v115 : BitVec 32 := Scalar.addi v2 c_m1_i32_129
  let c4_i32_130 : BitVec 32 := 4#32
  let v116 : BitVec 32 := Scalar.addi v115 c4_i32_130
  let c4_i32_131 : BitVec 32 := 4#32
  let v117 : BitVec 32 := Scalar.remsi v116 c4_i32_131
  let c1024_i32_132 : BitVec 32 := 1024#32
  let v118 : BitVec 32 := Scalar.muli v117 c1024_i32_132
  let v119 : BitVec 32 := Scalar.addi v118 c0_i32_133
  let v120 : Index := Scalar.indexCast v119
  let c0 : Index := 0#32
  ![v120.toNat, 0]
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_152 : BitVec 32 := 1#32
  let v136 : BitVec 32 := Scalar.muli v7 c1_i32_152
  let v137 : BitVec 32 := Scalar.addi c0_i32_153 v136
  v137.toNat
def k0_off6 (d0 : Dev nD) (c1_i32_184 : BitVec 32) (c0_i32_188 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v162 : BitVec 32 := Scalar.addi v2 c1_i32_184
  let c4_i32_185 : BitVec 32 := 4#32
  let v163 : BitVec 32 := Scalar.addi v162 c4_i32_185
  let c4_i32_186 : BitVec 32 := 4#32
  let v164 : BitVec 32 := Scalar.remsi v163 c4_i32_186
  let c1024_i32_187 : BitVec 32 := 1024#32
  let v165 : BitVec 32 := Scalar.muli v164 c1024_i32_187
  let v166 : BitVec 32 := Scalar.addi v165 c0_i32_188
  let v167 : Index := Scalar.indexCast v166
  let c1024 : Index := 1024#32
  ![v167.toNat, 1024]
def k0_dev8 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_207 : BitVec 32 := 1#32
  let v183 : BitVec 32 := Scalar.muli v5 c1_i32_207
  let v184 : BitVec 32 := Scalar.addi c0_i32_208 v183
  v184.toNat
def k0_dev9 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_259 : BitVec 32 := 1#32
  let v226 : BitVec 32 := Scalar.muli v7 c1_i32_259
  let v227 : BitVec 32 := Scalar.addi c0_i32_260 v226
  v227.toNat
def k0_dev10 (d0 : Dev nD) : Nat :=
  let c0_i32_313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_312 : BitVec 32 := 1#32
  let v269 : BitVec 32 := Scalar.muli v5 c1_i32_312
  let v270 : BitVec 32 := Scalar.addi c0_i32_313 v269
  v270.toNat
def k0_dev11 (d0 : Dev nD) : Nat :=
  let c0_i32_376 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_375 : BitVec 32 := 1#32
  let v328 : BitVec 32 := Scalar.muli v7 c1_i32_375
  let v329 : BitVec 32 := Scalar.addi c0_i32_376 v328
  v329.toNat
def k0_dev12 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_425 : BitVec 32 := 1#32
  let v371 : BitVec 32 := Scalar.muli v5 c1_i32_425
  let v372 : BitVec 32 := Scalar.addi c0_i32_426 v371
  v372.toNat
def k0_dev13 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_472 : BitVec 32 := 1#32
  let v410 : BitVec 32 := Scalar.muli v7 c1_i32_472
  let v411 : BitVec 32 := Scalar.addi c0_i32_473 v410
  v411.toNat
def k0_dev14 (d0 : Dev nD) : Nat :=
  let c0_i32_520 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_519 : BitVec 32 := 1#32
  let v449 : BitVec 32 := Scalar.muli v5 c1_i32_519
  let v450 : BitVec 32 := Scalar.addi c0_i32_520 v449
  v450.toNat
def k0_dev15 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_581 : BitVec 32 := 1#32
  let v508 : BitVec 32 := Scalar.muli v7 c1_i32_581
  let v509 : BitVec 32 := Scalar.addi c0_i32_582 v508
  v509.toNat
def k0_dev16 (d0 : Dev nD) : Nat :=
  let c0_i32_632 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_631 : BitVec 32 := 1#32
  let v551 : BitVec 32 := Scalar.muli v5 c1_i32_631
  let v552 : BitVec 32 := Scalar.addi c0_i32_632 v551
  v552.toNat
def k0_dev17 (d0 : Dev nD) : Nat :=
  let c0_i32_679 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_678 : BitVec 32 := 1#32
  let v590 : BitVec 32 := Scalar.muli v7 c1_i32_678
  let v591 : BitVec 32 := Scalar.addi c0_i32_679 v590
  v591.toNat
def k0_dev18 (d0 : Dev nD) : Nat :=
  let c0_i32_726 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_725 : BitVec 32 := 1#32
  let v629 : BitVec 32 := Scalar.muli v5 c1_i32_725
  let v630 : BitVec 32 := Scalar.addi c0_i32_726 v629
  v630.toNat
def k0_dev19 (d0 : Dev nD) : Nat :=
  let c0_i32_762 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_761 : BitVec 32 := 1#32
  let v654 : BitVec 32 := Scalar.muli v7 c1_i32_761
  let v655 : BitVec 32 := Scalar.addi c0_i32_762 v654
  v655.toNat
def k0_dev20 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_797 : BitVec 32 := 1#32
  let v679 : BitVec 32 := Scalar.muli v5 c1_i32_797
  let v680 : BitVec 32 := Scalar.addi c0_i32_798 v679
  v680.toNat
def k0_dev21 (d0 : Dev nD) : Nat :=
  let c0_i32_834 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_833 : BitVec 32 := 1#32
  let v704 : BitVec 32 := Scalar.muli v7 c1_i32_833
  let v705 : BitVec 32 := Scalar.addi c0_i32_834 v704
  v705.toNat
def k0_dev22 (d0 : Dev nD) : Nat :=
  let c0_i32_870 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_869 : BitVec 32 := 1#32
  let v729 : BitVec 32 := Scalar.muli v5 c1_i32_869
  let v730 : BitVec 32 := Scalar.addi c0_i32_870 v729
  v730.toNat
def k0_dev23 (d0 : Dev nD) : Nat :=
  let c0_i32_906 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_905 : BitVec 32 := 1#32
  let v754 : BitVec 32 := Scalar.muli v7 c1_i32_905
  let v755 : BitVec 32 := Scalar.addi c0_i32_906 v754
  v755.toNat
def k0_dev24 (d0 : Dev nD) : Nat :=
  let c0_i32_942 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_941 : BitVec 32 := 1#32
  let v779 : BitVec 32 := Scalar.muli v5 c1_i32_941
  let v780 : BitVec 32 := Scalar.addi c0_i32_942 v779
  v780.toNat
def k0_dev25 (d0 : Dev nD) : Nat :=
  let c0_i32_978 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_977 : BitVec 32 := 1#32
  let v804 : BitVec 32 := Scalar.muli v7 c1_i32_977
  let v805 : BitVec 32 := Scalar.addi c0_i32_978 v804
  v805.toNat
def k0_dev26 (d0 : Dev nD) : Nat :=
  let c0_i32_1014 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1013 : BitVec 32 := 1#32
  let v829 : BitVec 32 := Scalar.muli v5 c1_i32_1013
  let v830 : BitVec 32 := Scalar.addi c0_i32_1014 v829
  v830.toNat
abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x2048 : Shape := ⟨3, ![4, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S_, .f32⟩
  | .hbm, ⟨2, _⟩ => ⟨S4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealProgram.lean ====
/-
# The kernel's body as a short program

The printed body of the all-reduce, one operation after another with its offsets and device numbers computed
from the device's own number, is shown equal to a program built from a few building blocks: the entry handshake,
the start of a transfer, the wait for it, the start of a fetch, the wait for it, and the accumulation of a
fetched chunk. Every block names its chunk by a direction `d` (0: to the device on the right, over the left half
of the columns; 1: to the device on the left, over the right half), a row block `q` and one of the two halves `j`
of it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.AllReduce

open Cert.KernelIdeal Cert.KernelIdeal.Gen

open Idealize.ShloMosaic
open Idealize.ShloMosaic.TcCoe
open Idealize.SL.Sem

variable {F : FTy → Type} [FloatOps F]

/-! ## Neighbours and row blocks -/

set_option backward.proofsInPublic true in
/-- The device a transfer of direction `d` started on device `c` goes to. -/
def pe (d : Fin 2) (c : Dev nD) : Dev nD :=
  if d = 0 then ⟨(c.val + 1) % 4, Nat.mod_lt _ (by decide)⟩ else ⟨(c.val + 3) % 4, Nat.mod_lt _ (by decide)⟩

set_option backward.proofsInPublic true in
/-- The row block device `c` sends at phase `p` (modulo four) in direction `d`: `c - p` to the right, `c + p` to the left. -/
def sq (d : Fin 2) (c : Dev nD) (p : Fin 4) : Fin 4 :=
  if d = 0 then ⟨(c.val + (4 - p.val)) % 4, Nat.mod_lt _ (by decide)⟩ else ⟨(c.val + p.val) % 4, Nat.mod_lt _ (by decide)⟩

/-- The corner of the half `j` of row block `q` in the column half `d`. -/
def offR (d : Fin 2) (q : Fin 4) (j : Fin 2) : Fin 2 → Nat := ![1024 * q.val + 512 * j.val, 1024 * d.val]
theorem offR_inb (d : Fin 2) (q : Fin 4) (j : Fin 2) : ∀ a, offR d q j a + S512x1024.size a ≤ S4096x2048.size a := by
  revert d q j; decide +kernel
/-- The corner of row block `q` in the column half `d` of the argument. -/
def offX (d : Fin 2) (q : Fin 4) : Fin 3 → Nat := ![0, 1024 * q.val, 1024 * d.val]
theorem offX_inb (d : Fin 2) (q : Fin 4) : ∀ a, offX d q a + S1x1024x1024.size a ≤ S1x4096x2048.size a := by
  revert d q; decide +kernel
/-- The corner of half `j` of a fetched row block. -/
def offS (j : Fin 2) : Fin 2 → Nat := ![512 * j.val, 0]
theorem offS_inb (j : Fin 2) : ∀ a, offS j a + S512x1024.size a ≤ S1024x1024.size a := by
  revert j; decide +kernel

/-! ## The memrefs -/

/-- The argument, the result's buffer, and the two buffers fetched chunks are put in. -/
abbrev xM : Memref sig .tc .hbm S1x4096x2048 .f32 := Memref.whole main_arg0
abbrev oM : Memref sig .tc .vmem S4096x2048 .f32 := Memref.whole cc0_stg0_0
abbrev fM (d : Fin 2) : Memref sig .tc .vmem S1024x1024 .f32 := match d with | 0 => Memref.whole cc0_scratch0 | 1 => Memref.whole cc0_scratch1
theorem fM_whole (d : Fin 2) : (fM d).IsWhole := match d with | 0 => Memref.isWhole_whole _ | 1 => Memref.isWhole_whole _

/-- The rectangles of the result and of a fetched chunk. -/
abbrev rO (d : Fin 2) (q : Fin 4) (j : Fin 2) : Rect S4096x2048 := Rect.unit (s := S4096x2048) (offR d q j) S512x1024.size (offR_inb d q j)
abbrev rF (j : Fin 2) : Rect S1024x1024 := Rect.unit (s := S1024x1024) (offS j) S512x1024.size (offS_inb j)

/-- The region `(d, q, j)` of the result's buffer. -/
abbrev oV (d : Fin 2) (q : Fin 4) (j : Fin 2) : Memref sig .tc .vmem S512x1024 .f32 := oM.slice (rO d q j) (fun _ => rfl)
/-- The argument without its leading axis of one element, and its region `(d, q, j)`. -/
abbrev xQ : Memref sig .tc .hbm S4096x2048 .f32 :=
  (xM.slice (Rect.unit (s := S1x4096x2048) ![0, 0, 0] S1x4096x2048.size inb_S1x4096x2048_S1x4096x2048_0_0_0) (fun _ => rfl)).squeeze S4096x2048 squeezes_S1x4096x2048_S4096x2048
abbrev xV (d : Fin 2) (q : Fin 4) (j : Fin 2) : Memref sig .tc .hbm S512x1024 .f32 := xQ.slice (rO d q j) (fun _ => rfl)
/-- The row block `q` of the column half `d` of the argument, as the fetch reads it. -/
abbrev xF (d : Fin 2) (q : Fin 4) : Memref sig .tc .hbm S1024x1024 .f32 :=
  (xM.slice (Rect.unit (s := S1x4096x2048) (offX d q) S1x1024x1024.size (offX_inb d q)) (fun _ => rfl)).squeeze S1024x1024 squeezes_S1x1024x1024_S1024x1024

/-! ## The semaphores -/

/-- A transfer: its phase (0–2 the sums travel, 3–5 the finished chunks), its half and its direction. -/
abbrev T : Type := Fin 6 × Fin 2 × Fin 2

set_option backward.proofsInPublic true in
abbrev sendS (t : T) : DmaSem sig :=
  if t.1.val < 3 then ⟨3 + 6 * t.2.2.val + 2 * t.1.val + t.2.1.val, by show _ < 51; have := t.1.isLt; have := t.2.1.isLt; have := t.2.2.isLt; omega⟩
  else ⟨21 + 6 * t.2.2.val + 2 * t.1.val + t.2.1.val, by show _ < 51; have := t.1.isLt; have := t.2.1.isLt; have := t.2.2.isLt; omega⟩
set_option backward.proofsInPublic true in
abbrev recvS (t : T) : DmaSem sig :=
  if t.1.val < 3 then ⟨15 + 6 * t.2.2.val + 2 * t.1.val + t.2.1.val, by show _ < 51; have := t.1.isLt; have := t.2.1.isLt; have := t.2.2.isLt; omega⟩
  else ⟨33 + 6 * t.2.2.val + 2 * t.1.val + t.2.1.val, by show _ < 51; have := t.1.isLt; have := t.2.1.isLt; have := t.2.2.isLt; omega⟩
set_option backward.proofsInPublic true in
abbrev fetchS (d : Fin 2) : DmaSem sig := ⟨1 + d.val, by show _ < 51; have := d.isLt; omega⟩
abbrev barS : Sem sig := (SemArray.scalar (sig.barrier 0 rfl) : Sems sig S_).sem

set_option backward.proofsInPublic true in
/-- A phase modulo four: after four phases the row blocks come round. -/
def p4 (p : Fin 6) : Fin 4 := ⟨p.val % 4, Nat.mod_lt _ (by decide)⟩

/-! ## The building blocks

They are stated over a table of the offsets and neighbours a device uses, so that the table the printed body computes
and the table of `offR` and `pe` are two instances of one program. -/

/-- Where a device's chunks lie, by direction and phase modulo four, and who its neighbours are. -/
structure Geo where
  off : Fin 2 → Fin 4 → Fin 2 → Fin 2 → Nat
  off_inb : ∀ d p j a, off d p j a + S512x1024.size a ≤ S4096x2048.size a
  acc : Fin 2 → Fin 4 → Fin 2 → Fin 2 → Nat
  acc_inb : ∀ d p j a, acc d p j a + S512x1024.size a ≤ S4096x2048.size a
  fx : Fin 2 → Fin 4 → Fin 3 → Nat
  fx_inb : ∀ d p a, fx d p a + S1x1024x1024.size a ≤ S1x4096x2048.size a
  dev : Fin 2 → Dev nD

abbrev P (F : FTy → Type) [FloatOps F] : Type 1 := Prog (TpuEff nD τ sig (Elt F) Λ₀ .tc) PUnit

section Blocks
variable (G : Geo)

abbrev Geo.o (d : Fin 2) (p : Fin 4) (j : Fin 2) : Memref sig .tc .vmem S512x1024 .f32 :=
  oM.slice (Rect.unit (s := S4096x2048) (G.off d p j) S512x1024.size (G.off_inb d p j)) (fun _ => rfl)
abbrev Geo.x (d : Fin 2) (p : Fin 4) (j : Fin 2) : Memref sig .tc .hbm S512x1024 .f32 :=
  xQ.slice (Rect.unit (s := S4096x2048) (G.off d p j) S512x1024.size (G.off_inb d p j)) (fun _ => rfl)
abbrev Geo.f (d : Fin 2) (p : Fin 4) : Memref sig .tc .hbm S1024x1024 .f32 :=
  (xM.slice (Rect.unit (s := S1x4096x2048) (G.fx d p) S1x1024x1024.size (G.fx_inb d p)) (fun _ => rfl)).squeeze S1024x1024 squeezes_S1x1024x1024_S1024x1024

/-- Start transfer `t`, phase 0: from the argument. -/
def kSend0 (t : T) (k : P F) : P F :=
  .op (.enqueueDma (G.x t.2.2 (p4 t.1) t.2.1) (.remote (Dev.tc (G.dev t.2.2)) (G.o t.2.2 (p4 t.1) t.2.1) (.dma (sendS t)))
    (.dma (recvS t)) (View.wordExact_bits rfl) (View.wordExact_bits rfl) ⟨⟨rfl, Or.inl rfl⟩, trivial⟩) fun _ => k
/-- Start transfer `t` of a later phase: from the result's buffer. -/
def kSend (t : T) (k : P F) : P F :=
  .op (.enqueueDma (G.o t.2.2 (p4 t.1) t.2.1) (.remote (Dev.tc (G.dev t.2.2)) (G.o t.2.2 (p4 t.1) t.2.1) (.dma (sendS t)))
    (.dma (recvS t)) (View.wordExact_bits rfl) (View.wordExact_bits rfl) ⟨⟨rfl, Or.inl rfl⟩, trivial⟩) fun _ => k
/-- Wait until transfer `t` has left and its counterpart has arrived; in phase 0 the source named is the argument. -/
def kWait0 (t : T) (k : P F) : P F :=
  .op (.waitDma2 (sendS t) (G.o t.2.2 (p4 t.1) t.2.1) (G.x t.2.2 (p4 t.1) t.2.1) (View.wordExact_bits rfl) (View.wordExact_bits rfl)) fun _ =>
  .op (.waitDma2 (recvS t) (G.x t.2.2 (p4 t.1) t.2.1) (G.o t.2.2 (p4 t.1) t.2.1) (View.wordExact_bits rfl) (View.wordExact_bits rfl)) fun _ => k
def kWait (t : T) (k : P F) : P F :=
  .op (.waitDma2 (sendS t) (G.o t.2.2 (p4 t.1) t.2.1) (G.o t.2.2 (p4 t.1) t.2.1) (View.wordExact_bits rfl) (View.wordExact_bits rfl)) fun _ =>
  .op (.waitDma2 (recvS t) (G.o t.2.2 (p4 t.1) t.2.1) (G.o t.2.2 (p4 t.1) t.2.1) (View.wordExact_bits rfl) (View.wordExact_bits rfl)) fun _ => k

/-- Start the fetch of the chunk of the column half `d` numbered `p`, and wait for it. -/
def kFetch (d : Fin 2) (p : Fin 4) (k : P F) : P F :=
  .op (.enqueueDma (G.f d p) (.here (fM d)) (.dma (fetchS d)) ((View.wordExact_bits rfl).reshape _ _) (fM_whole d).wordExact ⟨Or.inl rfl, trivial⟩) fun _ => k
def kFetchWait (d : Fin 2) (p : Fin 4) (k : P F) : P F :=
  .op (.waitDma2 (fetchS d) (G.f d p) (fM d) ((View.wordExact_bits rfl).reshape _ _) (fM_whole d).wordExact) fun _ => k

/-- Add half `j` of the fetched chunk to the chunk `(d, p, j)`, with the dead read of it the store carries. -/
def kAcc (d : Fin 2) (p : Fin 4) (j : Fin 2) (k : P F) : P F :=
  .op (.load oM (Rect.unit (s := S4096x2048) (G.acc d p j) S512x1024.size (G.acc_inb d p j)).toLoadRect (View.loadsAt_vmem h_S512x1024)) fun (v : Vec F S512x1024 .f32) =>
  .op (.load (fM d) (rF j).toLoadRect (View.loadsAt_vmem h_S512x1024)) fun (w : Vec F S512x1024 .f32) =>
  .op (.load oM (Rect.unit (s := S4096x2048) (G.acc d p j) S512x1024.size (G.acc_inb d p j)).toLoadRect (View.loadsAt_vmem h_S512x1024)) fun (_ : Vec F S512x1024 .f32) =>
  .op (.store oM (Rect.unit (s := S4096x2048) (G.acc d p j) S512x1024.size (G.acc_inb d p j)) (k0_pay1 v w) Finset.univ (View.stores_vmem_bits_univ h_S512x1024 rfl) (.inl rfl)) fun _ => k

/-- Signal both neighbours' barrier semaphore, the left one's first, and wait for both their signals. -/
def kBar (k : P F) : P F :=
  .op (.semSignal (Dev.tc (G.dev 1)) barS (1#32).toNat) fun _ =>
  .op (.semSignal (Dev.tc (G.dev 0)) barS (1#32).toNat) fun _ =>
  .op (.semWait barS (2#32).toNat) fun _ => k

/-- A step of the first phase: wait, at the first half also for the fetch, accumulate, send on. -/
def kRs0 (j d : Fin 2) (k : P F) : P F :=
  kWait0 G (0, j, d) <| match j with
  | 0 => kFetchWait G d 1 <| kAcc G d 1 0 <| kSend G (1, 0, d) k
  | 1 => kAcc G d 1 1 <| kSend G (1, 1, d) k
/-- A step of the other two summing phases. -/
def kRs (p : Fin 6) (j d : Fin 2) (k : P F) : P F :=
  kWait G (p, j, d) <| match j with
  | 0 => kFetchWait G d (p4 p + 1) <| kAcc G d (p4 p + 1) 0 <| kSend G (p + 1, 0, d) k
  | 1 => kAcc G d (p4 p + 1) 1 <| kSend G (p + 1, 1, d) k
/-- A step of a later phase but the last: wait, send on. -/
def kAg (p : Fin 6) (j d : Fin 2) (k : P F) : P F :=
  kWait G (p, j, d) <| kSend G (p + 1, j, d) k

/-- The four steps of a phase. -/
def kFour (s : Fin 2 → Fin 2 → P F → P F) (k : P F) : P F := s 0 0 <| s 0 1 <| s 1 0 <| s 1 1 k

/-- The body. -/
def body : P F :=
  kBar G <| kSend0 G (0, 0, 0) <| kSend0 G (0, 1, 0) <| kSend0 G (0, 0, 1) <| kSend0 G (0, 1, 1) <|
  kFetch G 0 1 <| kFetch G 1 1 <| kFour (kRs0 G) <|
  kFetch G 0 2 <| kFetch G 1 2 <| kFour (kRs G 1) <|
  kFetch G 0 3 <| kFetch G 1 3 <| kFour (kRs G 2) <|
  kFour (kAg G 3) <| kFour (kAg G 4) <| kFour (fun j d => kWait G (5, j, d)) (.ret ⟨⟩)

end Blocks

/-! ## The two tables -/

/-- The table by `offR`, `offX` and `pe`. -/
def geo (c : Dev nD) : Geo where
  off d p j := offR d (sq d c p) j
  off_inb d p j := offR_inb d (sq d c p) j
  acc d p j := offR d (sq d c p) j
  acc_inb d p j := offR_inb d (sq d c p) j
  fx d p := offX d (sq d c p)
  fx_inb d p := offX_inb d (sq d c p)
  dev d := pe d c

/-- The words the printed body adds to the device's number. -/
def wS (d : Fin 2) : Fin 4 → BitVec 32 := match d with | 0 => ![0#32, 4294967295#32, 4294967294#32, 1#32] | 1 => ![0#32, 1#32, 2#32, 4294967295#32]
def wA (d : Fin 2) : Fin 4 → BitVec 32 := match d with | 0 => ![0#32, 4294967295#32, 4294967294#32, 4294967293#32] | 1 => ![0#32, 1#32, 2#32, 3#32]
def wJ : Fin 2 → BitVec 32 := ![0#32, 512#32]

def gOff (c : Dev nD) (d : Fin 2) (p : Fin 4) (j : Fin 2) : Fin 2 → Nat := match d with | 0 => k0_off1 c (wS 0 p) (wJ j) | 1 => k0_off2 c (wS 1 p) (wJ j)
def gAcc (c : Dev nD) (d : Fin 2) (p : Fin 4) (j : Fin 2) : Fin 2 → Nat := match d with | 0 => k0_off5 c (wA 0 p) (wJ j) | 1 => k0_off6 c (wA 1 p) (wJ j)
def gFx (c : Dev nD) (d : Fin 2) (p : Fin 4) : Fin 3 → Nat := match d with | 0 => k0_off3 c (wA 0 p) | 1 => k0_off4 c (wA 1 p)
def gDev (c : Dev nD) (d : Fin 2) : Dev nD := match d with | 0 => ⟨k0_dev2 c, k0_dev2_lt c⟩ | 1 => ⟨k0_dev1 c, k0_dev1_lt c⟩

theorem gOff_eq : ∀ c d p j, gOff c d p j = offR d (sq d c p) j := by decide +kernel
theorem gAcc_eq : ∀ c d p j, gAcc c d p j = offR d (sq d c p) j := by decide +kernel
theorem gFx_eq : ∀ c d p, gFx c d p = offX d (sq d c p) := by decide +kernel
theorem gDev_eq : ∀ c d, gDev c d = pe d c := by decide +kernel

/-- The table the printed body computes. -/
def gen (c : Dev nD) : Geo where
  off := gOff c
  off_inb d p j := by rw [gOff_eq]; exact offR_inb d (sq d c p) j
  acc := gAcc c
  acc_inb d p j := by rw [gAcc_eq]; exact offR_inb d (sq d c p) j
  fx := gFx c
  fx_inb d p := by rw [gFx_eq]; exact offX_inb d (sq d c p)
  dev := gDev c

theorem gen_eq (c : Dev nD) : gen c = geo c := by
  have h1 : gOff c = fun d p j => offR d (sq d c p) j := by funext d p j; exact gOff_eq c d p j
  have h2 : gAcc c = fun d p j => offR d (sq d c p) j := by funext d p j; exact gAcc_eq c d p j
  have h3 : gFx c = fun d p => offX d (sq d c p) := by funext d p; exact gFx_eq c d p
  have h4 : gDev c = fun d => pe d c := by funext d; exact gDev_eq c d
  unfold gen geo
  simp only [h1, h2, h3, h4]

set_option maxRecDepth 20000 in
/-- The printed body: it reads the device's number and runs the program above. -/
theorem cc0_body_eq : cc0_body (F := F) xM (Memref.isWhole_whole _) oM (Memref.isWhole_whole _) (fM 0) (Memref.isWhole_whole _) (fM 1) (Memref.isWhole_whole _)
      cc0_scratch2 cc0_scratch3 cc0_scratch4 cc0_scratch5 cc0_scratch6
    = .op .deviceId fun c => body (gen c) := by
  rw [cc0_body_eq_skeleton]
  rfl

end Cert.KernelIdeal.AllReduce
-- ==== Proof.KernelIdealSchedule.lean ====
/-
# Regions, contents and the schedule of the all-reduce

Every device holds the result's buffer in sixteen regions `(d, q, j)`: column half `d`, row block `q`, half `j` of the
row block. Transfer `t = (p, j, d)` carries one region from a device to its neighbour `pe d`. The file states what
each semaphore cell hands over in each round:

* a device's barrier cell, from the neighbour in direction `d`: that neighbour's eight regions of column half `d`;
* the send cell of transfer `t`: the region (or the part of the argument) it read;
* the receive cell of transfer `t`: the region it filled, holding the partial sum, and — for four of the pairs of
  phase and direction — a region of the sender's buffer the receiver writes to later;
* the two fetch cells, three rounds each: the part of the argument read and the fetched copy of it.
-/
module

public import proofs.«01_k».proof.Proof.KernelIdealProgram

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Facts about neighbours and row blocks -/

theorem pe_pe (d : Fin 2) (c : Dev nD) : pe (1 - d) (pe d c) = c := by revert d c; decide
theorem pe_pe' (d : Fin 2) (c : Dev nD) : pe d (pe (1 - d) c) = c := by revert d c; decide
/-- What a device sends is what its neighbour receives. -/
theorem sq_pe (d : Fin 2) (c : Dev nD) (p : Fin 4) : sq d (pe d c) (p + 1) = sq d c p := by revert d c p; decide
theorem sq_inj (d : Fin 2) (c : Dev nD) : Function.Injective (sq d c) := by revert d c; decide
theorem sq_bij (d : Fin 2) (c : Dev nD) : Function.Bijective (sq d c) := by revert d c; decide

/-! ## Locations, contents -/

abbrev oLoc (c : Dev nD) : Loc nD τ sig := (c : Thread nD τ).loc cc0_stg0_0
abbrev xLoc (c : Dev nD) : Loc nD τ sig := (c : Thread nD τ).loc main_arg0
abbrev fLoc (d : Fin 2) (c : Dev nD) : Loc nD τ sig := (fM d).view.loc (c : Thread nD τ)

/-- Contents of a result buffer. -/
abbrev Res (F : FTy → Type) [FloatOps F] : Type := (cc0_stg0_0 : Ref sig .tc).ty.Contents (Elt F)

/-- Device `c`'s argument, and it without its leading axis. -/
def xb (c : Dev nD) : Buf (Elt F) (xLoc c) := m (xLoc c)
def X (c : Dev nD) : Res F := xQ.view.read (Elt F) (xb m c)

set_option backward.proofsInPublic true in
/-- The device whose argument is added `n` steps after a chunk of row block `q` set off. -/
def bk (d : Fin 2) (q : Fin 4) (n : ℕ) : Dev nD :=
  if d = 0 then ⟨(q.val + n) % 4, Nat.mod_lt _ (by decide)⟩ else ⟨(q.val + (4 - n % 4)) % 4, Nat.mod_lt _ (by decide)⟩

/-- The partial sum of row block `q` in direction `d` after `n` additions (all rows and columns; only a region of it is ever in memory). -/
def acc (d : Fin 2) (q : Fin 4) : ℕ → Res F
  | 0 => X m q
  | n + 1 => fun i => FloatOps.addf (acc d q n i) (X m (bk d q (n + 1)) i)

/-- How many additions a chunk sent at phase `p` has seen. -/
def lvl (p : Fin 6) : ℕ := min p.val 3

/-- The fetched chunk of row block `q` of device `c`'s argument. -/
def fch (c : Dev nD) (d : Fin 2) (q : Fin 4) : (S1024x1024 : Shape).Idx → Elt F .f32 := (xF d q).view.read (Elt F) (xb m c)

/-! ## The points-tos -/

/-- Region `(d, q, j)` of device `c`'s result buffer at contents `f`, and at some contents. -/
def reg (c : Dev nD) (d : Fin 2) (q : Fin 4) (j : Fin 2) (f : Buf (Elt F) (oLoc c)) : sProp 𝕄 :=
  oLoc c ↦[(oV d q j).view.set]{fullShare} f
def anyReg (c : Dev nD) (d : Fin 2) (q : Fin 4) (j : Fin 2) : sProp 𝕄 := iprop(∃ f, reg c d q j f)
/-- Region `(d, q, j)` of its argument; row block `q` of the column half `d` of it. -/
def xReg (c : Dev nD) (d : Fin 2) (q : Fin 4) (j : Fin 2) : sProp 𝕄 := xLoc c ↦[(xV d q j).view.set]{fullShare} xb m c
def xBlk (c : Dev nD) (d : Fin 2) (q : Fin 4) : sProp 𝕄 := xLoc c ↦[(xF d q).view.set]{fullShare} xb m c
/-- The buffer fetched chunks of direction `d` are put in. -/
def fbuf (c : Dev nD) (d : Fin 2) (f : Buf (Elt F) (fLoc d c)) : sProp 𝕄 := fLoc d c ↦[(fM d).view.set]{fullShare} f

instance reg_storable (c : Dev nD) (d q j f) : BI.Storable (upEmb : UEmb _ 𝕄) (reg (F := F) c d q j f) := by unfold reg; infer_instance
instance anyReg_storable (c : Dev nD) (d q j) : BI.Storable (upEmb : UEmb _ 𝕄) (anyReg (F := F) c d q j) := by unfold anyReg; infer_instance
instance xReg_storable (c : Dev nD) (d q j) : BI.Storable (upEmb : UEmb _ 𝕄) (xReg (F := F) m c d q j) := by unfold xReg; infer_instance
instance xBlk_storable (c : Dev nD) (d q) : BI.Storable (upEmb : UEmb _ 𝕄) (xBlk (F := F) m c d q) := by unfold xBlk; infer_instance
instance fbuf_storable (c : Dev nD) (d f) : BI.Storable (upEmb : UEmb _ 𝕄) (fbuf (F := F) c d f) := by unfold fbuf; infer_instance

/-! ## The cells -/

/-- The cells of a device: its barrier (`none`), its two fetches, its sends, its receives. -/
abbrev K : Type := Fin 2 ⊕ T ⊕ T
abbrev CK : Type := Option K

/-- The kernel's own semaphores, and all of the protocol's. -/
abbrev osem (k : K) : SemLoc sig := match k with | .inl d => .dma (fetchS d) | .inr (.inl t) => .dma (sendS t) | .inr (.inr t) => .dma (recvS t)
abbrev csem (k : CK) : SemLoc sig := match k with | none => .reg barS | some k => osem k

theorem osem_inj : Function.Injective osem := by decide +kernel
theorem csem_inj : Function.Injective csem := by
  rintro (_ | k) (_ | k') h
  · rfl
  · rcases k' with d | t | t <;> cases h
  · rcases k with d | t | t <;> cases h
  · exact congrArg some (osem_inj h)

/-- The cell a semaphore is, if it is one of them. -/
def dec (sm : SemLoc sig) : Option CK := by
  classical exact if h : ∃ k, csem k = sm then some h.choose else none
theorem dec_csem (k : CK) : dec (csem k) = some k := by
  unfold dec
  have h : ∃ k', csem k' = csem k := ⟨k, rfl⟩
  rw [dif_pos h]
  exact congrArg some (csem_inj h.choose_spec)
theorem dec_some {sm : SemLoc sig} {k : CK} (h : dec sm = some k) : csem k = sm := by
  unfold dec at h
  split at h
  · rename_i h'; cases h; exact h'.choose_spec
  · cases h

abbrev kcell (c : Dev nD) (k : CK) : GSem nD τ sig := ((c : Thread nD τ), csem k)
abbrev barCell (c : Dev nD) : GSem nD τ sig := kcell c none
abbrev fetchCell (c : Dev nD) (d : Fin 2) : GSem nD τ sig := kcell c (some (.inl d))
abbrev sendCell (c : Dev nD) (t : T) : GSem nD τ sig := kcell c (some (.inr (.inl t)))
abbrev recvCell (c : Dev nD) (t : T) : GSem nD τ sig := kcell c (some (.inr (.inr t)))

/-- The credit of a transfer and of a fetch. -/
def N : ℕ := (oV 0 0 0).view.dmaCredit
def NF : ℕ := (fM 0).view.dmaCredit
theorem N_pos : 0 < N := View.dmaCredit_pos _ (by decide)
theorem NF_pos : 0 < NF := View.dmaCredit_pos _ (by decide)
theorem N_o (d q j) : (oV d q j).view.dmaCredit = N := rfl
theorem N_x (d q j) : (xV d q j).view.dmaCredit = N := rfl
theorem NF_f (d) : (fM d).view.dmaCredit = NF := match d with | 0 => rfl | 1 => rfl
attribute [irreducible] N NF

/-! ## What the cells hand over -/

/-- What transfer `t` reads on device `c`, and what it writes there once it has arrived. -/
def srcPts (c : Dev nD) (t : T) : sProp 𝕄 :=
  if t.1 = 0 then xReg m c t.2.2 (sq t.2.2 c (p4 t.1)) t.2.1
  else reg c t.2.2 (sq t.2.2 c (p4 t.1)) t.2.1 (acc m t.2.2 (sq t.2.2 c (p4 t.1)) (lvl t.1))
def recvPts (c : Dev nD) (t : T) : sProp 𝕄 :=
  reg c t.2.2 (sq t.2.2 c (p4 t.1 + 1)) t.2.1 (acc m t.2.2 (sq t.2.2 c (p4 t.1 + 1)) (lvl t.1))
/-- Where device `c` writes with transfer `t`: a region of its neighbour's buffer. -/
def dst (c : Dev nD) (t : T) : sProp 𝕄 := anyReg (pe t.2.2 c) t.2.2 (sq t.2.2 c (p4 t.1)) t.2.1
/-- The region of its neighbour's buffer device `c` is given along with transfer `t`. -/
def extra (c : Dev nD) (t : T) : sProp 𝕄 :=
  if t.2.2 = 0 ∧ (t.1 = 3 ∨ t.1 = 4) then dst c (t.1 + 1, t.2.1, 1)
  else if t.2.2 = 1 ∧ (t.1 = 2 ∨ t.1 = 3) then dst c (t.1 + 2, t.2.1, 0)
  else iprop(emp)
/-- What a device is given by its neighbour in direction `d` at the start: the regions of the first four phases. -/
def barPay (c : Dev nD) (d : Fin 2) : sProp 𝕄 :=
  bigSep Finset.univ fun pj : Fin 4 × Fin 2 => anyReg (pe d c) d (sq d c pj.1) pj.2
/-- Round `r` of a fetch cell. -/
def fetchPay (c : Dev nD) (d : Fin 2) (q : Fin 4) : sProp 𝕄 :=
  iprop(xBlk m c d q ∗ ∃ f, ⌜(fM d).view.read (Elt F) f = fch m c d q⌝ ∗ fbuf c d f)

instance srcPts_storable (c : Dev nD) (t) : BI.Storable (upEmb : UEmb _ 𝕄) (srcPts (F := F) m c t) := by unfold srcPts; split <;> infer_instance
instance recvPts_storable (c : Dev nD) (t) : BI.Storable (upEmb : UEmb _ 𝕄) (recvPts (F := F) m c t) := by unfold recvPts; infer_instance
instance dst_storable (c : Dev nD) (t) : BI.Storable (upEmb : UEmb _ 𝕄) (dst (F := F) c t) := by unfold dst; infer_instance
instance extra_storable (c : Dev nD) (t) : BI.Storable (upEmb : UEmb _ 𝕄) (extra (F := F) c t) := by unfold extra; (repeat' split) <;> infer_instance
instance barPay_storable (c : Dev nD) (d) : BI.Storable (upEmb : UEmb _ 𝕄) (barPay (F := F) c d) := by unfold barPay; infer_instance
instance fetchPay_storable (c : Dev nD) (d q) : BI.Storable (upEmb : UEmb _ 𝕄) (fetchPay (F := F) m c d q) := by unfold fetchPay; infer_instance

/-- The direction a duty of a barrier cell stands for. -/
def dirOf (b : Bool) : Fin 2 := if b then 1 else 0

/-- The fetches of a device in direction `d`, by round. -/
def fq (c : Dev nD) (d : Fin 2) (r : ℕ) : Fin 4 := sq d c ⟨(r + 1) % 4, Nat.mod_lt _ (by decide)⟩

/-- A cell's duties, amounts and payloads, by which cell it is. -/
def dut (k : CK) (r : ℕ) : Finset Bool := match k with
  | none => if r = 0 then Finset.univ else ∅
  | some (.inl _) => if r < 3 then {false} else ∅
  | some (.inr _) => if r = 0 then {false} else ∅
def amt (k : CK) : ℕ := match k with | none => 1 | some (.inl _) => NF | some (.inr _) => N
def pay (c : Dev nD) (k : CK) (r : ℕ) (b : Bool) : sProp 𝕄 := match k with
  | none => barPay c (dirOf b)
  | some (.inl d) => fetchPay m c d (fq c d r)
  | some (.inr (.inl t)) => srcPts m c t
  | some (.inr (.inr t)) => iprop(recvPts m c t ∗ extra c t)

theorem amt_pos (k : CK) : 0 < amt k := by
  unfold amt
  split
  · exact Nat.one_pos
  · exact NF_pos
  · exact N_pos

instance pay_storable (c : Dev nD) (k r b) : BI.Storable (upEmb : UEmb _ 𝕄) (pay (F := F) m c k r b) := by
  unfold pay; split <;> infer_instance

/-- The schedule. -/
def Rd : Rounds.Schedule (GSem nD τ sig) Bool 𝕄 where
  duties g r := if g.1.2 = .tc then (match dec g.2 with | some k => dut k r | none => ∅) else ∅
  unitless _ := False
  amount g _ _ := match dec g.2 with | some k => amt k | none => 1
  payload g r b := match dec g.2 with | some k => pay m g.1.1 k r b | none => iprop(emp)
  amount_pos g _ _ _ := by
    cases dec g.2 with
    | none => exact Nat.one_pos
    | some k => exact amt_pos k

instance Rd_payload_storable (g : GSem nD τ sig) (r : ℕ) (b : Bool) : BI.Storable (upEmb : UEmb _ 𝕄) ((Rd (F := F) m).payload g r b) := by
  show BI.Storable upEmb (match dec g.2 with | some k => pay m g.1.1 k r b | none => iprop(emp))
  split <;> infer_instance

section Sched
variable (c : Dev nD) (k : CK)

theorem duties_eq (r : ℕ) : (Rd (F := F) m).duties (kcell c k) r = dut k r := by
  dsimp only [Rd]; rw [if_pos rfl, dec_csem]
theorem amount_eq (r : ℕ) (b : Bool) : (Rd (F := F) m).amount (kcell c k) r b = amt k := by
  dsimp only [Rd]; rw [dec_csem]
theorem payload_eq (r : ℕ) (b : Bool) : (Rd (F := F) m).payload (kcell c k) r b = pay m c k r b := by
  dsimp only [Rd]; rw [dec_csem]

theorem expect_bar : (Rd (F := F) m).expect (barCell c) 0 = 2 := by
  unfold Schedule.expect Schedule.amountOf
  rw [duties_eq, Finset.sum_congr rfl fun b _ => amount_eq m c none 0 b]
  show ∑ b ∈ (Finset.univ : Finset Bool), 1 = 2
  decide
/-- A round of one duty. -/
theorem expect_one (r : ℕ) (h : dut k r = {false}) : (Rd (F := F) m).expect (kcell c k) r = amt k := by
  unfold Schedule.expect Schedule.amountOf
  rw [duties_eq, h, Finset.sum_singleton, amount_eq]
theorem rest_one (r : ℕ) (h : dut k r = {false}) :
    bigSep ((Rd (F := F) m).duties (kcell c k) r \ ∅) (fun b => (Rd (F := F) m).payload (kcell c k) r b) = pay m c k r false := by
  rw [Finset.sdiff_empty, duties_eq, h, bigSep_singleton, payload_eq]
theorem rest_bar :
    bigSep ((Rd (F := F) m).duties (barCell c) 0 \ ∅) (fun b => (Rd (F := F) m).payload (barCell c) 0 b) = iprop(barPay c 0 ∗ barPay c 1) := by
  rw [Finset.sdiff_empty, duties_eq]
  show bigSep Finset.univ _ = _
  rw [bigSep_univ_eq_bigSepL [false, true] (by decide) (by decide), bigSepL_cons_cons, bigSepL_singleton, payload_eq, payload_eq]
  rfl
theorem dut_late (r : ℕ) (h : (match k with | some (.inl _) => 3 | _ => 1) ≤ r) : dut k r = ∅ := by
  rcases k with _ | _ | _ <;> dsimp only at h <;> exact if_neg (by omega)
theorem duties_late (R : ℕ) (h : (match k with | some (.inl _) => 3 | _ => 1) ≤ R) :
    ∀ r, R ≤ r → (Rd (F := F) m).duties (kcell c k) r = ∅ :=
  fun r hr => (duties_eq m c k r).trans (dut_late k r (h.trans hr))

end Sched

end Cert.KernelIdeal.AllReduce
-- ==== Proof.KernelIdealGeometry.lean ====
/-
# Where the regions lie, and what writing them leaves

Which elements the regions of the result's buffer and of the argument have; that the sixteen regions make up the
result's buffer and the ten parts read make up the argument; what an arriving transfer and an accumulation leave in
a region.
-/
module

public import proofs.«01_k».proof.Proof.KernelIdealSchedule

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Elements -/

/-- An element of the result's buffer is in region `(d, q, j)` when its row and column say so. -/
theorem mem_oV (d : Fin 2) (q : Fin 4) (j : Fin 2) (i : (S4096x2048 : Shape).Idx) :
    i ∈ (oV d q j).view.set ↔ (i 0).val / 512 = 2 * q.val + j.val ∧ (i 1).val / 1024 = d.val := by
  show i ∈ ((View.whole cc0_stg0_0).slice (rO d q j)).set ↔ _
  rw [View.set_slice_whole, Rect.mem_set_unit]
  refine Fin.forall_fin_two.trans ?_
  show (1024 * q.val + 512 * j.val ≤ (i 0).val ∧ (i 0).val < 1024 * q.val + 512 * j.val + 512) ∧ (1024 * d.val ≤ (i 1).val ∧ (i 1).val < 1024 * d.val + 1024) ↔ _
  omega

/-- Dropping the argument's leading axis keeps the two coordinates. -/
theorem xQ_emb (y : (S4096x2048 : Shape).Idx) : (xQ.view.emb y 1).val = (y 0).val ∧ (xQ.view.emb y 2).val = (y 1).val := by
  have h : Shape.reshapeEquiv squeezes_S1x4096x2048_S4096x2048.numel_eq y = Fin.cons ⟨0, Nat.one_pos⟩ y := Shape.reshapeEquiv_cons_one _ y
  have h1 : (xQ.view.emb y 1).val = 0 + 1 * (Shape.reshapeEquiv squeezes_S1x4096x2048_S4096x2048.numel_eq y 1).val := rfl
  have h2 : (xQ.view.emb y 2).val = 0 + 1 * (Shape.reshapeEquiv squeezes_S1x4096x2048_S4096x2048.numel_eq y 2).val := rfl
  rw [h] at h1 h2
  exact ⟨h1.trans (by rw [Nat.zero_add, Nat.one_mul]; rfl), h2.trans (by rw [Nat.zero_add, Nat.one_mul]; rfl)⟩

theorem xF_emb (d : Fin 2) (q : Fin 4) (y : (S1024x1024 : Shape).Idx) :
    ((xF d q).view.emb y 1).val = 1024 * q.val + (y 0).val ∧ ((xF d q).view.emb y 2).val = 1024 * d.val + (y 1).val := by
  have h : Shape.reshapeEquiv squeezes_S1x1024x1024_S1024x1024.numel_eq y = Fin.cons ⟨0, Nat.one_pos⟩ y := Shape.reshapeEquiv_cons_one _ y
  have h1 : ((xF d q).view.emb y 1).val = 1024 * q.val + 1 * (Shape.reshapeEquiv squeezes_S1x1024x1024_S1024x1024.numel_eq y 1).val := rfl
  have h2 : ((xF d q).view.emb y 2).val = 1024 * d.val + 1 * (Shape.reshapeEquiv squeezes_S1x1024x1024_S1024x1024.numel_eq y 2).val := rfl
  rw [h] at h1 h2
  exact ⟨h1.trans (by rw [Nat.one_mul]; rfl), h2.trans (by rw [Nat.one_mul]; rfl)⟩

/-- Two elements of the argument are the same when their rows and columns are. -/
theorem x_ext {i i' : (S1x4096x2048 : Shape).Idx} (h1 : (i 1).val = (i' 1).val) (h2 : (i 2).val = (i' 2).val) : i = i' := by
  funext a
  match a with
  | 0 => exact Subsingleton.elim (α := Fin 1) _ _
  | 1 => exact Fin.ext h1
  | 2 => exact Fin.ext h2

theorem mem_xV (d : Fin 2) (q : Fin 4) (j : Fin 2) (i : (S1x4096x2048 : Shape).Idx) :
    i ∈ (xV d q j).view.set ↔ (i 1).val / 512 = 2 * q.val + j.val ∧ (i 2).val / 1024 = d.val := by
  constructor
  · intro h
    obtain ⟨y, -, rfl⟩ := Finset.mem_map.mp h
    have he := xQ_emb ((rO d q j).emb y)
    have h0 : ((rO d q j).emb y 0).val = 1024 * q.val + 512 * j.val + 1 * (y 0).val := rfl
    have h1 : ((rO d q j).emb y 1).val = 1024 * d.val + 1 * (y 1).val := rfl
    have b0 : (y 0).val < 512 := (y 0).isLt
    have b1 : (y 1).val < 1024 := (y 1).isLt
    show (xQ.view.emb ((rO d q j).emb y) 1).val / 512 = _ ∧ (xQ.view.emb ((rO d q j).emb y) 2).val / 1024 = _
    rw [he.1, he.2, h0, h1]
    omega
  · rintro ⟨h1, h2⟩
    have b1 : (i 1).val < 4096 := (i 1).isLt
    have b2 : (i 2).val < 2048 := (i 2).isLt
    let y : (S512x1024 : Shape).Idx := fun a => match a with | 0 => ⟨(i 1).val - (1024 * q.val + 512 * j.val), by show _ < 512; omega⟩ | 1 => ⟨(i 2).val - 1024 * d.val, by show _ < 1024; omega⟩
    refine Finset.mem_map.mpr ⟨y, Finset.mem_univ _, ?_⟩
    have he := xQ_emb ((rO d q j).emb y)
    have e0 : ((rO d q j).emb y 0).val = 1024 * q.val + 512 * j.val + 1 * ((i 1).val - (1024 * q.val + 512 * j.val)) := rfl
    have e1 : ((rO d q j).emb y 1).val = 1024 * d.val + 1 * ((i 2).val - 1024 * d.val) := rfl
    refine x_ext (he.1.trans ?_) (he.2.trans ?_)
    · rw [e0]; omega
    · rw [e1]; omega

theorem mem_xF (d : Fin 2) (q : Fin 4) (i : (S1x4096x2048 : Shape).Idx) :
    i ∈ (xF d q).view.set ↔ (i 1).val / 1024 = q.val ∧ (i 2).val / 1024 = d.val := by
  constructor
  · intro h
    obtain ⟨y, -, rfl⟩ := Finset.mem_map.mp h
    have he := xF_emb d q y
    have b0 : (y 0).val < 1024 := (y 0).isLt
    have b1 : (y 1).val < 1024 := (y 1).isLt
    rw [he.1, he.2]
    omega
  · rintro ⟨h1, h2⟩
    have b1 : (i 1).val < 4096 := (i 1).isLt
    have b2 : (i 2).val < 2048 := (i 2).isLt
    let y : (S1024x1024 : Shape).Idx := fun a => match a with | 0 => ⟨(i 1).val - 1024 * q.val, by show _ < 1024; omega⟩ | 1 => ⟨(i 2).val - 1024 * d.val, by show _ < 1024; omega⟩
    refine Finset.mem_map.mpr ⟨y, Finset.mem_univ _, ?_⟩
    have he := xF_emb d q y
    have e0 : (y 0).val = (i 1).val - 1024 * q.val := rfl
    have e1 : (y 1).val = (i 2).val - 1024 * d.val := rfl
    refine x_ext (he.1.trans ?_) (he.2.trans ?_)
    · rw [e0]; omega
    · rw [e1]; omega

/-! ## The partitions -/

/-- The sixteen regions: pairwise disjoint, the whole buffer together. -/
theorem reg_all (c : Dev nD) (f : Buf (Elt F) (oLoc c)) :
    (oLoc c ↦{fullShare} f : sProp 𝕄) = bigSep Finset.univ fun k : Fin 2 × Fin 4 × Fin 2 => reg c k.1 k.2.1 k.2.2 f := by
  have h := pointsTo_biUnion (Ix := Unit) (Name := ℕ) (U := UU) (Lvl := ℕ) (ℓ := oLoc c) (q := fullShare) (f := f) (Finset.univ : Finset (Fin 2 × Fin 4 × Fin 2))
    (fun k => (oV k.1 k.2.1 k.2.2).view.set) (by
      rintro ⟨d, q, j⟩ - ⟨d', q', j'⟩ - hne
      refine Finset.disjoint_left.mpr fun i hi hi' => hne ?_
      have h := (mem_oV d q j i).mp hi
      have h' := (mem_oV d' q' j' i).mp hi'
      have := j.isLt; have := j'.isLt
      refine Prod.ext (Fin.ext ?_) (Prod.ext (Fin.ext ?_) (Fin.ext ?_)) <;> dsimp only <;> omega)
  refine (congrArg (fun I => (oLoc c ↦[I]{fullShare} f : sProp 𝕄)) ?_).trans h
  refine (Finset.eq_univ_iff_forall.mpr fun (i : (S4096x2048 : Shape).Idx) => ?_).symm
  have b0 : (i 0).val < 4096 := (i 0).isLt
  have b1 : (i 1).val < 2048 := (i 1).isLt
  refine Finset.mem_biUnion.mpr ⟨(⟨(i 1).val / 1024, by omega⟩, ⟨(i 0).val / 1024, by omega⟩, ⟨(i 0).val / 512 % 2, by omega⟩), Finset.mem_univ _, (mem_oV _ _ _ i).mpr ?_⟩
  dsimp only
  omega

/-- The parts of the argument the body reads: by the transfers of phase 0, and by the fetches. -/
theorem x_all (c : Dev nD) :
    (xLoc c ↦{fullShare} xb m c : sProp 𝕄)
      = iprop((bigSep Finset.univ fun k : Fin 2 × Fin 2 => xReg m c k.2 (sq k.2 c 0) k.1)
          ∗ (bigSep Finset.univ fun k : Fin 2 × Fin 3 => xBlk m c k.1 (fq c k.1 k.2))) := by
  let W : (Fin 2 × Fin 2) ⊕ (Fin 2 × Fin 3) → Finset (Idx (xLoc c)) := fun k => match k with
    | .inl k => (xV k.2 (sq k.2 c 0) k.1).view.set | .inr k => (xF k.1 (fq c k.1 k.2)).view.set
  have hfq : ∀ (c : Dev nD) (d : Fin 2) (r : Fin 3), fq c d r ≠ sq d c 0 := by decide
  have hff : ∀ (c : Dev nD) (d : Fin 2) (r r' : Fin 3), (fq c d r).val = (fq c d r').val → r = r' := by decide
  have hcov : ∀ (c : Dev nD) (d : Fin 2) (q : Fin 4), q = sq d c 0 ∨ ∃ r : Fin 3, q = fq c d r := by decide
  have h := pointsTo_biUnion (Ix := Unit) (Name := ℕ) (U := UU) (Lvl := ℕ) (ℓ := xLoc c) (q := fullShare) (f := xb m c) Finset.univ W (by
      rintro k - k' - hne
      refine Finset.disjoint_left.mpr fun i hi hi' => hne ?_
      rcases k with ⟨j, d⟩ | ⟨d, r⟩ <;> rcases k' with ⟨j', d'⟩ | ⟨d', r'⟩
      · have h := (mem_xV _ _ _ i).mp hi
        have h' := (mem_xV _ _ _ i).mp hi'
        dsimp only at h h'
        have := j.isLt; have := j'.isLt
        obtain rfl : d = d' := Fin.ext (by omega)
        obtain rfl : j = j' := Fin.ext (by omega)
        rfl
      · have h := (mem_xV _ _ _ i).mp hi
        have h' := (mem_xF _ _ i).mp hi'
        dsimp only at h h'
        have := j.isLt
        obtain rfl : d = d' := Fin.ext (by omega)
        exact absurd (Fin.ext (by omega)) (hfq c d r')
      · have h := (mem_xF _ _ i).mp hi
        have h' := (mem_xV _ _ _ i).mp hi'
        dsimp only at h h'
        have := j'.isLt
        obtain rfl : d = d' := Fin.ext (by omega)
        exact absurd (Fin.ext (by omega)) (hfq c d r)
      · have h := (mem_xF _ _ i).mp hi
        have h' := (mem_xF _ _ i).mp hi'
        dsimp only at h h'
        obtain rfl : d = d' := Fin.ext (by omega)
        obtain rfl : r = r' := hff c d r r' (by omega)
        rfl)
  refine (congrArg (fun I => (xLoc c ↦[I]{fullShare} xb m c : sProp 𝕄)) ?_).trans (h.trans (bigSep_univ_sum _))
  · refine (Finset.eq_univ_iff_forall.mpr fun (i : (S1x4096x2048 : Shape).Idx) => ?_).symm
    have b1 : (i 1).val < 4096 := (i 1).isLt
    have b2 : (i 2).val < 2048 := (i 2).isLt
    rcases hcov c ⟨(i 2).val / 1024, by omega⟩ ⟨(i 1).val / 1024, by omega⟩ with hq | ⟨r, hq⟩
    · refine Finset.mem_biUnion.mpr ⟨.inl (⟨(i 1).val / 512 % 2, by omega⟩, ⟨(i 2).val / 1024, by omega⟩), Finset.mem_univ _, (mem_xV _ _ _ i).mpr ?_⟩
      dsimp only
      rw [← hq]
      dsimp only
      omega
    · refine Finset.mem_biUnion.mpr ⟨.inr (⟨(i 2).val / 1024, by omega⟩, r), Finset.mem_univ _, (mem_xF _ _ i).mpr ?_⟩
      dsimp only
      rw [← hq]
      exact ⟨rfl, rfl⟩

/-! ## What a write leaves -/

/-- Contents that agree on a region are the same there. -/
theorem reg_congr (c : Dev nD) (d q j) {f g : Buf (Elt F) (oLoc c)}
    (h : ∀ y : (S512x1024 : Shape).Idx, f ((rO d q j).emb y) = g ((rO d q j).emb y)) : (reg c d q j f : sProp 𝕄) = reg c d q j g :=
  pointsTo_congr fun i hi => by
    obtain ⟨y, -, rfl⟩ := Finset.mem_map.mp hi
    exact h y

/-- A region written as the same region of contents `g` reads. -/
theorem reg_landed (c : Dev nD) (d q j) (f : Buf (Elt F) (oLoc c)) (g : Res F) :
    (reg c d q j ((oV d q j).view.write (Elt F) f ((oV d q j).view.read (Elt F) g) Finset.univ) : sProp 𝕄) = reg c d q j g :=
  reg_congr c d q j fun y => View.write_emb_of_mem (v := (oV d q j).view) (Val := Elt F) f ((oV d q j).view.read (Elt F) g) (M := Finset.univ) (x := y) (Finset.mem_univ y)

/-- Reading a region of the argument. -/
theorem read_xV (c : Dev nD) (d q j) : (xV d q j).view.read (Elt F) (xb m c) = (oV d q j).view.read (Elt F) (X m c) := rfl

/-- Half `j` of a fetched chunk is the region of the argument it was fetched for. -/
theorem fch_at (c : Dev nD) (d q j) (y : (S512x1024 : Shape).Idx) : fch m c d q ((rF j).emb y) = X m c ((rO d q j).emb y) := by
  show xb m c ((xF d q).view.emb ((rF j).emb y)) = xb m c (xQ.view.emb ((rO d q j).emb y))
  have h := xF_emb d q ((rF j).emb y)
  have h' := xQ_emb ((rO d q j).emb y)
  have a0 : ((rF j).emb y 0).val = 512 * j.val + 1 * (y 0).val := rfl
  have a1 : ((rF j).emb y 1).val = 0 + 1 * (y 1).val := rfl
  have b0 : ((rO d q j).emb y 0).val = 1024 * q.val + 512 * j.val + 1 * (y 0).val := rfl
  have b1 : ((rO d q j).emb y 1).val = 1024 * d.val + 1 * (y 1).val := rfl
  exact congrArg (xb m c) (x_ext (by rw [h.1, h'.1, a0, b0]; omega) (by rw [h.2, h'.2, a1, b1]; omega))

/-- An accumulation carries a region from one partial sum to the next. -/
theorem reg_acc (c : Dev nD) (d q j) (n : ℕ) (hb : bk d q (n + 1) = c) (f : Buf (Elt F) (oLoc c)) (g : Buf (Elt F) (fLoc d c))
    (hg : (fM d).view.read (Elt F) g = fch m c d q) :
    (reg c d q j ((oM.access (rO d q j)).write (Elt F) f
        (k0_pay1 (oM.view.readAt (Elt F) (rO d q j).toLoadRect (acc m d q n)) ((fM d).view.readAt (Elt F) (rF j).toLoadRect g)) Finset.univ) : sProp 𝕄)
      = reg c d q j (acc m d q (n + 1)) :=
  reg_congr c d q j fun y => by
    refine (View.write_emb_of_mem (v := oM.access (rO d q j)) (Val := Elt F) f
      (k0_pay1 (oM.view.readAt (Elt F) (rO d q j).toLoadRect (acc m d q n)) ((fM d).view.readAt (Elt F) (rF j).toLoadRect g)) (M := Finset.univ) (x := y) (Finset.mem_univ y)).trans ?_
    have h1 : (fM d).view.readAt (Elt F) (rF j).toLoadRect g y = X m (bk d q (n + 1)) ((rO d q j).emb y) := by
      rw [View.readAt_apply, hg, hb]; exact fch_at m c d q j y
    have h2 : k0_pay1 (oM.view.readAt (Elt F) (rO d q j).toLoadRect (acc m d q n)) ((fM d).view.readAt (Elt F) (rF j).toLoadRect g) y
        = FloatOps.addf (acc m d q n ((rO d q j).emb y)) ((fM d).view.readAt (Elt F) (rF j).toLoadRect g y) := by
      unfold k0_pay1
      rw [show shapeCast S512x1024 (oM.view.readAt (Elt F) (rO d q j).toLoadRect (acc m d q n)) shapeCasts_S512x1024_S512x1024
          = oM.view.readAt (Elt F) (rO d q j).toLoadRect (acc m d q n) from funext fun i => congrArg _ (Shape.reshapeEquiv_self _ i)]
      rfl
    rw [h2, h1]
    rfl

/-! ## The result -/

/-- Every region at its finished sum makes the result. -/
def outAt (i : (S4096x2048 : Shape).Idx) : Elt F .f32 :=
  acc m ⟨(i 1).val / 1024, by have : (i 1).val < 2048 := (i 1).isLt; omega⟩ ⟨(i 0).val / 1024, by have : (i 0).val < 4096 := (i 0).isLt; omega⟩ 3 i

theorem reg_out (c : Dev nD) (d q j) : (reg c d q j (acc m d q 3) : sProp 𝕄) = reg c d q j (outAt m : Res F) :=
  pointsTo_congr fun i hi => by
    have h := (mem_oV d q j i).mp hi
    have := j.isLt
    unfold outAt
    rw [show (⟨(i 1).val / 1024, _⟩ : Fin 2) = d from Fin.ext h.2, show (⟨(i 0).val / 1024, _⟩ : Fin 4) = q from Fin.ext (by dsimp only; omega)]

theorem out_all (c : Dev nD) :
    (bigSep Finset.univ fun k : Fin 2 × Fin 4 × Fin 2 => reg c k.1 k.2.1 k.2.2 (acc m k.1 k.2.1 3)) = (oLoc c ↦{fullShare} (outAt m : Res F) : sProp 𝕄) := by
  rw [reg_all, bigSep_congr fun k _ => reg_out m c k.1 k.2.1 k.2.2]

end Cert.KernelIdeal.AllReduce
-- ==== Proof.KernelIdealSteps.lean ====
/-
# The steps of the body

What a device owes while it runs, and one lemma per building block of the body: a transfer's start, the two waits for
it, a fetch's start and its wait, an accumulation, the handshake on the barrier semaphores.
-/
module

public import proofs.«01_k».proof.Proof.KernelIdealGeometry

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What is owed -/

/-- The order the transfers are waited for in. -/
def idx (t : T) : ℕ := 4 * t.1.val + 2 * t.2.1.val + t.2.2.val
/-- The transfers from number `n` on. -/
@[irreducible] def rem (n : ℕ) : Finset T := Finset.univ.filter fun t => n ≤ idx t
theorem mem_rem {n : ℕ} {t : T} : t ∈ rem n ↔ n ≤ idx t := by unfold rem; rw [Finset.mem_filter]; exact and_iff_right (Finset.mem_univ _)
theorem idx_inj {t u : T} (h : idx t = idx u) : t = u := by
  obtain ⟨p, j, d⟩ := t
  obtain ⟨p', j', d'⟩ := u
  unfold idx at h
  dsimp only at h
  have := j.isLt; have := j'.isLt; have := d.isLt; have := d'.isLt
  exact Prod.ext (Fin.ext (by dsimp only; omega)) (Prod.ext (Fin.ext (by dsimp only; omega)) (Fin.ext (by dsimp only; omega)))
theorem rem_erase (t : T) : (rem (idx t)).erase t = rem (idx t + 1) := by
  ext u
  rw [Finset.mem_erase, mem_rem, mem_rem]
  constructor
  · rintro ⟨h1, h2⟩
    have : idx u ≠ idx t := fun h => h1 (idx_inj h)
    omega
  · intro h
    exact ⟨fun h' => by subst h'; omega, by omega⟩

/-- Device `c` owes the receive cells of the transfers in `S` it is still to start. -/
@[irreducible] def owedS (c : Dev nD) (S : Finset T) : CellTallies nD τ sig Unit := ∑ t ∈ S, tallyAt (recvCell (pe t.2.2 c) t) () N
theorem owedS_erase (c : Dev nD) {S : Finset T} {t : T} (h : t ∈ S) :
    owedS c S = owedS c (S.erase t) + tallyAt (recvCell (pe t.2.2 c) t) () N := by unfold owedS; exact (Finset.sum_erase_add S _ h).symm
theorem owedS_empty (c : Dev nD) : owedS c ∅ = 0 := by unfold owedS; exact Finset.sum_empty
/-- At the start it also owes its neighbours' barrier cells a unit each. -/
def O₁ (c : Dev nD) : CellTallies nD τ sig Unit := owedS c Finset.univ + tallyAt (barCell (pe 0 c)) () 1
def O₀ (c : Dev nD) : CellTallies nD τ sig Unit := O₁ c + tallyAt (barCell (pe 1 c)) () 1

theorem owedS_pos {c : Dev nD} {S : Finset T} {g : GSem nD τ sig} {u : Unit} (h : 0 < owedS c S g u) :
    ∃ t ∈ S, g = recvCell (pe t.2.2 c) t := by
  by_contra hn
  rw [not_exists] at hn
  have hz : owedS c S g u = 0 := by
    unfold owedS
    rw [Finset.sum_apply, Finsupp.finset_sum_apply]
    refine Finset.sum_eq_zero fun t ht => ?_
    rw [tallyAt_apply, if_neg fun h' => hn t ⟨ht, h'.1⟩]
  omega

theorem O₀_pos {c : Dev nD} {g : GSem nD τ sig} {u : Unit} (h : 0 < O₀ c g u) :
    (∃ t, g = recvCell (pe t.2.2 c) t) ∨ g = barCell (pe 0 c) ∨ g = barCell (pe 1 c) := by
  by_contra hn
  rw [not_or, not_or] at hn
  unfold O₀ O₁ at h
  rw [Pi.add_apply, Finsupp.add_apply, Pi.add_apply, Finsupp.add_apply, tallyAt_apply, tallyAt_apply, if_neg (fun h' => hn.2.1 h'.1), if_neg (fun h' => hn.2.2 h'.1)] at h
  obtain ⟨t, -, ht⟩ := owedS_pos h
  exact hn.1 ⟨t, ht⟩

/-- The levels: the transfers' receive cells above the barrier cells in the order of the waits, everything else at the bottom. -/
def L (g : GSem nD τ sig) : Finset Unit := if g.1.2 = .tc then {()} else ∅
def lvk : CK → ℕ | none => 1 | some (.inr (.inr t)) => 2 + idx t | _ => 0
def lv (g : GSem nD τ sig) (_ : Unit) : ℕ := match dec g.2 with | some k => lvk k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u) : lv (kcell c k) u = lvk k := by
  show (match dec (csem k) with | some k => lvk k | none => 0) = _
  rw [dec_csem]
theorem lv_bar (c : Dev nD) (u) : lv (barCell c) u = 1 := lv_cell c none u
theorem lv_recv (c : Dev nD) (t : T) (u) : lv (recvCell c t) u = 2 + idx t := lv_cell c _ u
theorem lv_send (c : Dev nD) (t : T) (u) : lv (sendCell c t) u = 0 := lv_cell c _ u
theorem lv_fetch (c : Dev nD) (d) (u) : lv (fetchCell c d) u = 0 := lv_cell c _ u

/-- A wait at a cell below all the transfers' receive cells that are owed. -/
theorem mayWait_below (c : Dev nD) (sm : SemLoc sig) (S : Finset T) (h : ∀ t ∈ S, lv ((c : Thread nD τ), sm) () < 2 + idx t) :
    (levAts L lv : sProp 𝕄) ⊢ MayWait (c : Thread nD τ) sm () (owedS c S) :=
  MayOwe.of_cut (L := L) (lev := lv) (lv ((c : Thread nD τ), sm) ())
    (fun p hp => by rw [Finset.mem_singleton.mp hp, L_tc]; exact Finset.mem_singleton_self _)
    (fun g u hg => by obtain ⟨t, -, rfl⟩ := owedS_pos hg; exact Finset.mem_singleton_self _)
    (fun p hp => by rw [Finset.mem_singleton.mp hp])
    (fun g u hg => by obtain ⟨t, ht, rfl⟩ := owedS_pos hg; rw [lv_recv]; exact h t ht)

/-- A wait at a cell of the bottom level, whatever is owed. -/
theorem mayWait_bottom (c : Dev nD) (sm : SemLoc sig) (h : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · exact MayOwe.of_cut (L := L) (lev := lv) 0
      (fun p hp => by rw [Finset.mem_singleton.mp hp, L_tc]; exact Finset.mem_singleton_self _)
      (fun g u hg => by rcases O₀_pos hg with ⟨t, rfl⟩ | rfl | rfl <;> exact Finset.mem_singleton_self _)
      (fun p hp => by rw [Finset.mem_singleton.mp hp]; exact h.le)
      (fun g u hg => by
        rcases O₀_pos hg with ⟨t, rfl⟩ | rfl | rfl
        · rw [lv_recv]; omega
        · rw [lv_bar]; decide
        · rw [lv_bar]; decide)
  · rw [MayWait_zero]; iintro -; iempintro

/-! ## What the steps run on -/

/-- The persistent facts: every cell's invariant under its name, round 0 of every cell reached, the levels. -/
def recs (κ : Dev nD × CK → ℕ) : sProp 𝕄 :=
  iprop((bigSep Finset.univ fun ck : Dev nD × CK => cellInv ER (Rd m) (κ ck) (kcell ck.1 ck.2))
    ∗ (bigSep Finset.univ fun ck : Dev nD × CK => reached ER (kcell ck.1 ck.2) 0) ∗ levAts L lv)

instance recs_persistent (κ : Dev nD × CK → ℕ) : BI.Persistent (recs (F := F) m κ) := by unfold recs; infer_instance

theorem inv_at (κ : Dev nD × CK → ℕ) (c : Dev nD) (k : CK) : (recs m κ : sProp 𝕄) ⊢ cellInv ER (Rd m) (κ (c, k)) (kcell c k) := by
  classical
  unfold recs
  iintro ⟨H, -, -⟩
  have h : (bigSep Finset.univ fun ck : Dev nD × CK => (cellInv ER (Rd m) (κ ck) (kcell ck.1 ck.2) : sProp 𝕄)) ⊢ cellInv ER (Rd m) (κ (c, k)) (kcell c k) :=
    bigSep_elim (Finset.mem_univ (c, k))
  iapply h
  iexact H
theorem reached_at (κ : Dev nD × CK → ℕ) (c : Dev nD) (k : CK) : (recs m κ : sProp 𝕄) ⊢ reached ER (kcell c k) 0 := by
  classical
  unfold recs
  iintro ⟨-, H, -⟩
  have h : (bigSep Finset.univ fun ck : Dev nD × CK => (reached ER (kcell ck.1 ck.2) 0 : sProp 𝕄)) ⊢ reached ER (kcell c k) 0 :=
    bigSep_elim (Finset.mem_univ (c, k))
  iapply h
  iexact H
theorem lev_at (κ : Dev nD × CK → ℕ) : (recs m κ : sProp 𝕄) ⊢ levAts L lv := by
  unfold recs
  iintro ⟨-, -, H⟩
  iexact H

/-- What device `c` owes is `O`. -/
def owing (c : Dev nD) (O : CellTallies nD τ sig Unit) : sProp 𝕄 := iprop(∃ W, owes (c : Thread nD τ) O W)

/-- A transfer to come, one on its way, one waited for. -/
def tail (c : Dev nD) (t : T) : sProp 𝕄 :=
  iprop(atPos ER (sendCell c t) 0 ∅ 0 ∗ atPos ER (recvCell c t) 0 ∅ 0 ∗ cred (tallyAt (recvCell c t) () N))
def pend (c : Dev nD) (t : T) : sProp 𝕄 :=
  iprop(dutyTok ER (sendCell c t) 0 false ∗ dutyTok ER (recvCell (pe t.2.2 c) t) 0 false ∗ tail c t)
def sent (c : Dev nD) (t : T) : sProp 𝕄 := iprop(cred (tallyAt (sendCell c t) () N) ∗ tail c t)
def done (c : Dev nD) (t : T) : sProp 𝕄 := iprop(semVal (sendCell c t) 0 ∗ semVal (recvCell c t) 0)

/-- A fetch buffer before round `r` of its cell, during it, and after it. -/
def fIdle (c : Dev nD) (d : Fin 2) (r : ℕ) : sProp 𝕄 := iprop(atPos ER (fetchCell c d) r ∅ 0 ∗ reached ER (fetchCell c d) r ∗ ∃ f, fbuf c d f)
def fRun (c : Dev nD) (d : Fin 2) (r : ℕ) : sProp 𝕄 := iprop(atPos ER (fetchCell c d) r ∅ 0 ∗ cred (tallyAt (fetchCell c d) () NF))
def fGot (c : Dev nD) (d : Fin 2) (r : ℕ) (q : Fin 4) : sProp 𝕄 :=
  iprop(atPos ER (fetchCell c d) (r + 1) ∅ 0 ∗ reached ER (fetchCell c d) (r + 1) ∗ ∃ f, ⌜(fM d).view.read (Elt F) f = fch m c d q⌝ ∗ fbuf c d f)

theorem fGot_idle (c : Dev nD) (d r q) : (fGot m c d r q : sProp 𝕄) ⊢ fIdle c d (r + 1) := by
  unfold fGot fIdle
  iintro ⟨H1, H2, %f, -, H⟩
  isplitl [H1]; · iexact H1
  isplitl [H2]; · iexact H2
  iexists f; iexact H

/-- The program `k` run on device `c` ends in `Q`. -/
abbrev WP (c : Dev nD) (k : P F) (Q : PUnit.{1} → sProp 𝕄) : sProp 𝕄 := wp frame (wpE (defs₀ (F := F)) 𝒱₀ (c : Thread nD τ) none) Set.univ k Q

section Steps
variable (κ : Dev nD × CK → ℕ) (c : Dev nD) {k : P F}

theorem dut_send (t : T) : dut (some (.inr (.inl t))) 0 = {false} := rfl
theorem dut_recv (t : T) : dut (some (.inr (.inr t))) 0 = {false} := rfl
theorem dut_fetch (d : Fin 2) {r : ℕ} (h : r < 3) : dut (some (.inl d)) r = {false} := if_pos h

theorem mem_duty {k : CK} {r : ℕ} (h : dut k r = {false}) : false ∈ (Rd (F := F) m).duties (kcell c k) r := by
  rw [duties_eq, h]; exact Finset.mem_singleton_self _

/-- What arrives with a transfer makes the receive cell's payload. -/
theorem landed_pay (t : T) (f : Buf (Elt F) (oLoc (pe t.2.2 c))) (v : (S512x1024 : Shape).Idx → Elt F .f32)
    (hv : v = (oV t.2.2 (sq t.2.2 c (p4 t.1)) t.2.1).view.read (Elt F) (acc m t.2.2 (sq t.2.2 c (p4 t.1)) (lvl t.1))) :
    iprop((oLoc (pe t.2.2 c) ↦[(oV t.2.2 (sq t.2.2 c (p4 t.1)) t.2.1).view.set]{fullShare}
        ((oV t.2.2 (sq t.2.2 c (p4 t.1)) t.2.1).view.write (Elt F) f v Finset.univ)) ∗ extra (pe t.2.2 c) t)
      ⊢ (Rd m).payload (recvCell (pe t.2.2 c) t) 0 false := by
  rw [payload_eq]
  subst hv
  show _ ⊢ iprop(recvPts m (pe t.2.2 c) t ∗ extra (pe t.2.2 c) t)
  unfold recvPts
  rw [sq_pe]
  exact sep_mono_left (Entails.of_eq (reg_landed (pe t.2.2 c) _ _ _ f _))

theorem sq_zero (d : Fin 2) (c : Dev nD) : sq d c (p4 0) = c := by revert d c; decide

/-- Nothing comes along with a transfer but at six of the pairs of phase and direction. -/
theorem extra_emp (c : Dev nD) (p : Fin 6) (j d : Fin 2) (h1 : ¬(d = 0 ∧ (p = 3 ∨ p = 4))) (h2 : ¬(d = 1 ∧ (p = 2 ∨ p = 3))) :
    (extra (F := F) c (p, j, d) : sProp 𝕄) = iprop(emp) := by
  unfold extra
  rw [if_neg h1, if_neg h2]

/-- The rule for a transfer, at this schedule's cells. -/
theorem send_rule {Q : PUnit.{1} → sProp 𝕄} (t : T) {sp : Space} {src : Memref sig .tc sp S512x1024 .f32} {fs : Buf (Elt F) (src.view.loc (c : Thread nD τ))}
    {hsc : (oV t.2.2 (sq t.2.2 c (p4 t.1)) t.2.1).view.ref.isScScratch = false}
    {hsrc : src.view.WordExact} {hdst : (oV t.2.2 (sq t.2.2 c (p4 t.1)) t.2.1).view.WordExact}
    {hsem : DmaTarget.Typed sp (.dma (recvS t)) (.remote (Dev.tc (pe t.2.2 c) : Thread nD τ) (oV t.2.2 (sq t.2.2 c (p4 t.1)) t.2.1) (.dma (sendS t)) hsc)}
    {S : Finset T} (hS : t ∈ S) (W : Waits sig Unit) (f : Buf (Elt F) (oLoc (pe t.2.2 c)))
    (hs : (src.view.loc (c : Thread nD τ) ↦[src.view.set]{fullShare} fs) = srcPts m c t)
    (hv : src.view.read (Elt F) fs = (oV t.2.2 (sq t.2.2 c (p4 t.1)) t.2.1).view.read (Elt F) (acc m t.2.2 (sq t.2.2 c (p4 t.1)) (lvl t.1))) :
    iprop(cellInv ER (Rd m) (κ (c, some (.inr (.inl t)))) (sendCell c t) ∗ cellInv ER (Rd m) (κ (pe t.2.2 c, some (.inr (.inr t)))) (recvCell (pe t.2.2 c) t)
        ∗ (src.view.loc (c : Thread nD τ) ↦[src.view.set]{fullShare} fs)
        ∗ ((oLoc (pe t.2.2 c) ↦[(oV t.2.2 (sq t.2.2 c (p4 t.1)) t.2.1).view.set]{fullShare} f) ∗ extra (pe t.2.2 c) t)
        ∗ owes (c : Thread nD τ) (owedS c S) W
        ∗ dutyTok ER (sendCell c t) 0 false ∗ reached ER (sendCell c t) 0
        ∗ dutyTok ER (recvCell (pe t.2.2 c) t) 0 false ∗ reached ER (recvCell (pe t.2.2 c) t) 0)
      ⊢ iprop(((cred (tallyAt (sendCell c t) () N) ∗ owes (c : Thread nD τ) (owedS c (S.erase t)) W) -∗ WP c k Q)
          -∗ WP c (.op (.enqueueDma src (.remote (Dev.tc (pe t.2.2 c) : Thread nD τ) (oV t.2.2 (sq t.2.2 c (p4 t.1)) t.2.1) (.dma (sendS t)) hsc) (.dma (recvS t)) hsrc hdst hsem) fun _ => k) Q) :=
  Rounds.wp_send_pointsTo_with 𝒱₀ ER (Rd m) (c : Thread nD τ) none (κ₁ := κ (c, some (.inr (.inl t)))) (κ₂ := κ (pe t.2.2 c, some (.inr (.inr t))))
    (c' := (pe t.2.2 c : Thread nD τ)) (src := src) (dst := oV t.2.2 (sq t.2.2 c (p4 t.1)) t.2.1) (k := fun _ => k)
    (r₁ := 0) (r₂ := 0) (d₁ := false) (d₂ := false) (fs := fs) (fd := f) (F := extra (pe t.2.2 c) t)
    (sS := .dma (sendS t)) (sem := .dma (recvS t))
    (mem_duty m c (dut_send t)) (mem_duty m (pe t.2.2 c) (dut_recv t))
    () () N (N_o t.2.2 (sq t.2.2 c (p4 t.1)) t.2.1) (amount_eq m c (some (.inr (.inl t))) 0 false) (amount_eq m (pe t.2.2 c) (some (.inr (.inr t))) 0 false) (owedS c (S.erase t)) (owedS_erase c hS) (W := W)
    (Entails.of_eq (hs.trans (payload_eq m c (some (.inr (.inl t))) 0 false).symm))
    (landed_pay m c t f _ hv) (hr := Topo.routes_tc _ _)

/-- The start of a transfer of a later phase. -/
theorem step_send {Q : PUnit.{1} → sProp 𝕄} (p : Fin 6) (j d : Fin 2) (hp : p ≠ 0) {S : Finset T} (hS : (p, j, d) ∈ S) :
    iprop(recs m κ ∗ pend c (p, j, d) ∗ dst c (p, j, d) ∗ srcPts m c (p, j, d) ∗ extra (pe d c) (p, j, d) ∗ owing c (owedS c S))
      ⊢ iprop(((sent c (p, j, d) ∗ owing c (owedS c (S.erase (p, j, d)))) -∗ WP c k Q) -∗ WP c (kSend (geo c) (p, j, d) k) Q) := by
  have hs : (oLoc c ↦[(oV d (sq d c (p4 p)) j).view.set]{fullShare} (acc m d (sq d c (p4 p)) (lvl p)) : sProp 𝕄) = srcPts m c (p, j, d) := by
    unfold srcPts; rw [if_neg hp]; rfl
  rw [← hs]
  unfold pend dst anyReg reg owing
  iintro ⟨#HR, ⟨Ht1, Ht2, Htail⟩, ⟨%f, Hd⟩, Hs, He, %W, HO⟩ Hk
  ihave #Hi1 := (inv_at m κ c (some (.inr (.inl (p, j, d))))) $$ HR
  ihave #Hi2 := (inv_at m κ (pe d c) (some (.inr (.inr (p, j, d))))) $$ HR
  ihave #Hr1 := (reached_at m κ c (some (.inr (.inl (p, j, d))))) $$ HR
  ihave #Hr2 := (reached_at m κ (pe d c) (some (.inr (.inr (p, j, d))))) $$ HR
  iapply (send_rule m κ c (p, j, d) (src := oV d (sq d c (p4 p)) j) (fs := acc m d (sq d c (p4 p)) (lvl p)) hS W f hs rfl) $$ [Ht1 Ht2 Hd Hs He HO]
  · isplitr; · iexact Hi1
    isplitr; · iexact Hi2
    isplitl [Hs]; · iexact Hs
    isplitl [Hd He]
    · isplitl [Hd]; · iexact Hd
      iexact He
    isplitl [HO]; · iexact HO
    isplitl [Ht1]; · iexact Ht1
    isplitr; · iexact Hr1
    isplitl [Ht2]; · iexact Ht2
    iexact Hr2
  iintro ⟨Hc, HO⟩
  iapply Hk
  isplitl [Hc Htail]
  · unfold sent
    isplitl [Hc]; · iexact Hc
    iexact Htail
  · iexists W; iexact HO

/-- The start of a transfer of phase 0. -/
theorem step_send0 {Q : PUnit.{1} → sProp 𝕄} (j d : Fin 2) {S : Finset T} (hS : ((0, j, d) : T) ∈ S) :
    iprop(recs m κ ∗ pend c (0, j, d) ∗ dst c (0, j, d) ∗ srcPts m c (0, j, d) ∗ owing c (owedS c S))
      ⊢ iprop(((sent c (0, j, d) ∗ owing c (owedS c (S.erase (0, j, d)))) -∗ WP c k Q) -∗ WP c (kSend0 (geo c) (0, j, d) k) Q) := by
  have hs : (xLoc c ↦[(xV d (sq d c (p4 0)) j).view.set]{fullShare} (xb m c) : sProp 𝕄) = srcPts m c (0, j, d) := by
    unfold srcPts; rw [if_pos rfl]; rfl
  have hv : (xV d (sq d c (p4 0)) j).view.read (Elt F) (xb m c) = (oV d (sq d c (p4 0)) j).view.read (Elt F) (acc m d (sq d c (p4 0)) (lvl 0)) := by
    rw [read_xV]
    show _ = (oV d (sq d c (p4 0)) j).view.read (Elt F) (X m (sq d c (p4 0)))
    rw [sq_zero]
  have he : (extra (pe d c) (0, j, d) : sProp 𝕄) = iprop(emp) := by
    have h1 : ∀ d : Fin 2, ¬(d = 0 ∧ ((0 : Fin 6) = 3 ∨ (0 : Fin 6) = 4)) := by decide
    have h2 : ∀ d : Fin 2, ¬(d = 1 ∧ ((0 : Fin 6) = 2 ∨ (0 : Fin 6) = 3)) := by decide
    exact extra_emp (pe d c) 0 j d (h1 d) (h2 d)
  rw [← hs]
  unfold pend dst anyReg reg owing
  iintro ⟨#HR, ⟨Ht1, Ht2, Htail⟩, ⟨%f, Hd⟩, Hs, %W, HO⟩ Hk
  ihave #Hi1 := (inv_at m κ c (some (.inr (.inl (0, j, d))))) $$ HR
  ihave #Hi2 := (inv_at m κ (pe d c) (some (.inr (.inr (0, j, d))))) $$ HR
  ihave #Hr1 := (reached_at m κ c (some (.inr (.inl (0, j, d))))) $$ HR
  ihave #Hr2 := (reached_at m κ (pe d c) (some (.inr (.inr (0, j, d))))) $$ HR
  iapply (send_rule m κ c (0, j, d) (src := xV d (sq d c (p4 0)) j) (fs := xb m c) hS W f hs hv) $$ [Ht1 Ht2 Hd Hs HO]
  · isplitr; · iexact Hi1
    isplitr; · iexact Hi2
    isplitl [Hs]; · iexact Hs
    isplitl [Hd]
    · isplitl [Hd]; · iexact Hd
      rw [he]; iempintro
    isplitl [HO]; · iexact HO
    isplitl [Ht1]; · iexact Ht1
    isplitr; · iexact Hr1
    isplitl [Ht2]; · iexact Ht2
    iexact Hr2
  iintro ⟨Hc, HO⟩
  iapply Hk
  isplitl [Hc Htail]
  · unfold sent
    isplitl [Hc]; · iexact Hc
    iexact Htail
  · iexists W; iexact HO

/-- A wait for the one duty of a cell's open round. -/
theorem wait_rule {Q : PUnit.{1} → sProp 𝕄} (kk : CK) (sm : DmaSem sig) (hsm : csem kk = .dma sm) (r : ℕ) (hd : dut kk r = {false}) {n : ℕ} (hn : amt kk = n)
    {sp sp' : Space} {s : Shape} {a : Memref sig .tc sp s .f32} {b : Memref sig .tc sp' s .f32} {ha : a.view.WordExact} {hb : b.view.WordExact}
    (hN : b.view.dmaCredit = n) (S : Finset T) (hlt : ∀ t ∈ S, lvk kk < 2 + idx t) :
    iprop(recs m κ ∗ cred (tallyAt (kcell c kk) () n) ∗ owing c (owedS c S) ∗ atPos ER (kcell c kk) r ∅ 0)
      ⊢ iprop(((owing c (owedS c S) ∗ atPos ER (kcell c kk) (r + 1) ∅ 0 ∗ reached ER (kcell c kk) (r + 1) ∗ pay m c kk r false) -∗ WP c k Q)
        -∗ WP c (.op (.waitDma2 sm a b ha hb) fun _ => k) Q) := by
  subst hN
  have hw : (levAts L lv : sProp 𝕄) ⊢ MayWait (c : Thread nD τ) (.dma sm) () (owedS c S) :=
    mayWait_below c _ S fun t ht => by rw [← hsm]; exact (lv_cell c kk ()).trans_lt (hlt t ht)
  have he := expect_one m c kk r hd
  have hr := rest_one m c kk r hd
  iintro ⟨#HR, Hc, HO, Hat⟩ Hk
  ihave #Hi := (inv_at m κ c kk) $$ HR
  ihave #Hl := (lev_at m κ) $$ HR
  unfold kcell at *
  rw [hsm] at *
  unfold owing
  icases HO with ⟨%W, HO⟩
  iapply (Rounds.wp_wait_rest_token 𝒱₀ ER (Rd m) (c : Thread nD τ) none (κ := κ (c, kk)) (k := fun _ => k)
      (wpE_waitDma2_eq 𝒱₀ (c : Thread nD τ) none Set.univ) (Set.mem_univ _) () (O := owedS c S) (W := W) (R := r) (m := 0) (T := ∅)
      (by rw [Nat.zero_add, he, hn])) $$ [Hc HO Hat]
  · isplitr; · iexact Hi
    isplitl [Hc]; · iexact Hc
    isplitl [HO]; · iexact HO
    isplitr; · iapply hw; iexact Hl
    iexact Hat
  iintro ⟨HO, Hat, Hr, Hpay⟩
  iapply Hk
  isplitl [HO]; · iexists _; iexact HO
  isplitl [Hat]; · iexact Hat
  isplitl [Hr]; · iexact Hr
  iapply (Entails.of_eq hr); iexact Hpay

end Steps

end Cert.KernelIdeal.AllReduce
-- ==== Proof.KernelIdealPhases.lean ====
/-
# The phases of the body

The waits, the fetches, the accumulation and the handshake, one lemma each; then a step of each phase — wait, add, send
on — and the pair of steps, one per direction, of one half.
-/
module

public import proofs.«01_k».proof.Proof.KernelIdealSteps

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Waits
variable (κ : Dev nD × CK → ℕ) (c : Dev nD) {k : P F}

theorem pay_send (t : T) : (pay m c (some (.inr (.inl t))) 0 false : sProp 𝕄) = srcPts m c t := rfl
theorem pay_bar (b : Bool) : (pay m c none 0 b : sProp 𝕄) = barPay c (dirOf b) := rfl

/-- The two waits for a transfer: its source comes back, its counterpart's chunk and what came along with it arrive, and both cells close. -/
theorem step_waits {Q : PUnit.{1} → sProp 𝕄} (t : T) {sp₁ sp₂ sp₃ sp₄ : Space} {s s' : Shape} {a : Memref sig .tc sp₁ s .f32} {b : Memref sig .tc sp₂ s .f32}
    {a' : Memref sig .tc sp₃ s' .f32} {b' : Memref sig .tc sp₄ s' .f32} {h₁ : a.view.WordExact} {h₂ : b.view.WordExact} {h₃ : a'.view.WordExact} {h₄ : b'.view.WordExact}
    (hb : b.view.dmaCredit = N) (hb' : b'.view.dmaCredit = N) (S : Finset T) (hlt : ∀ u ∈ S, idx t < idx u) :
    iprop(recs m κ ∗ sent c t ∗ owing c (owedS c S))
      ⊢ iprop(((done c t ∗ srcPts m c t ∗ recvPts m c t ∗ extra c t ∗ owing c (owedS c S)) -∗ WP c k Q)
        -∗ WP c (.op (.waitDma2 (sendS t) a b h₁ h₂) fun _ => .op (.waitDma2 (recvS t) a' b' h₃ h₄) fun _ => k) Q) := by
  unfold sent tail
  iintro ⟨#HR, ⟨HcS, HaS, HaV, HcV⟩, HO⟩ Hk
  iapply (wait_rule m κ c (some (.inr (.inl t))) (sendS t) rfl 0 (dut_send t) (n := N) rfl hb S (fun u _ => by show 0 < 2 + idx u; omega)) $$ [HcS HaS HO]
  · isplitr; · iexact HR
    isplitl [HcS]; · iexact HcS
    isplitl [HO]; · iexact HO
    iexact HaS
  iintro ⟨HO, HaS, -, HpS⟩
  iapply (wait_rule m κ c (some (.inr (.inr t))) (recvS t) rfl 0 (dut_recv t) (n := N) rfl hb' S (fun u hu => by show 2 + idx t < 2 + idx u; have := hlt u hu; omega)) $$ [HcV HaV HO]
  · isplitr; · iexact HR
    isplitl [HcV]; · iexact HcV
    isplitl [HO]; · iexact HO
    iexact HaV
  iintro ⟨HO, HaV, -, HpV⟩
  ihave #Hi1 := (inv_at m κ c (some (.inr (.inl t)))) $$ HR
  ihave #Hi2 := (inv_at m κ c (some (.inr (.inr t)))) $$ HR
  imod (Rounds.cell_close ER (Rd m) (Set.mem_univ (κ (c, some (.inr (.inl t))))) (fun h => h) (R := 0 + 1) (duties_late m c (some (.inr (.inl t))) 1 le_rfl)) $$ [HaS] with HzS
  · isplitr; · iexact Hi1
    iexact HaS
  imod (Rounds.cell_close ER (Rd m) (Set.mem_univ (κ (c, some (.inr (.inr t))))) (fun h => h) (R := 0 + 1) (duties_late m c (some (.inr (.inr t))) 1 le_rfl)) $$ [HaV] with HzV
  · isplitr; · iexact Hi2
    iexact HaV
  iapply Hk
  unfold done
  isplitl [HzS HzV]
  · isplitl [HzS]; · iexact HzS
    iexact HzV
  isplitl [HpS]; · iapply (Entails.of_eq (pay_send m c t)); iexact HpS
  unfold pay
  icases HpV with ⟨H1, H2⟩
  isplitl [H1]; · iexact H1
  isplitl [H2]; · iexact H2
  iexact HO

theorem step_wait0 {Q : PUnit.{1} → sProp 𝕄} (t : T) (S : Finset T) (hlt : ∀ u ∈ S, idx t < idx u) :
    iprop(recs m κ ∗ sent c t ∗ owing c (owedS c S))
      ⊢ iprop(((done c t ∗ srcPts m c t ∗ recvPts m c t ∗ extra c t ∗ owing c (owedS c S)) -∗ WP c k Q) -∗ WP c (kWait0 (geo c) t k) Q) :=
  step_waits m κ c t (N_x _ _ _) (N_o _ _ _) S hlt

theorem step_wait {Q : PUnit.{1} → sProp 𝕄} (t : T) (S : Finset T) (hlt : ∀ u ∈ S, idx t < idx u) :
    iprop(recs m κ ∗ sent c t ∗ owing c (owedS c S))
      ⊢ iprop(((done c t ∗ srcPts m c t ∗ recvPts m c t ∗ extra c t ∗ owing c (owedS c S)) -∗ WP c k Q) -∗ WP c (kWait (geo c) t k) Q) :=
  step_waits m κ c t (N_o _ _ _) (N_o _ _ _) S hlt

/-! ## The fetches -/

/-- What a fetch leaves makes its cell's payload. -/
theorem fetched_pay (d : Fin 2) (q : Fin 4) (f : Buf (Elt F) (fLoc d c)) :
    iprop((fLoc d c ↦[(fM d).view.set]{fullShare} ((fM d).view.write (Elt F) f ((xF d q).view.read (Elt F) (xb m c)) Finset.univ)) ∗ xBlk m c d q)
      ⊢ (fetchPay m c d q : sProp 𝕄) := by
  unfold fetchPay fbuf
  iintro ⟨H1, H2⟩
  isplitl [H2]; · iexact H2
  iexists _
  isplitr
  rotate_left
  · iexact H1
  · ipureintro; exact View.read_write_univ _ _

theorem step_fetch {Q : PUnit.{1} → sProp 𝕄} (d : Fin 2) (p : Fin 4) (r : ℕ) (hr : r < 3) (hq : fq c d r = sq d c p) :
    iprop(recs m κ ∗ dutyTok ER (fetchCell c d) r false ∗ fIdle c d r ∗ xBlk m c d (sq d c p))
      ⊢ iprop((fRun c d r -∗ WP c k Q) -∗ WP c (kFetch (geo c) d p k) Q) := by
  unfold fIdle fRun xBlk fbuf
  iintro ⟨#HR, Ht, ⟨Hat, Hr, %f, Hf⟩, Hx⟩ Hk
  ihave #Hi := (inv_at m κ c (some (.inl d))) $$ HR
  iapply (Rounds.wp_copy_pointsTo 𝒱₀ ER (Rd m) (c : Thread nD τ) none (κ := κ (c, some (.inl d))) (k := fun _ => k)
      (src := xF d (sq d c p)) (dst := fM d) (sem := .dma (fetchS d)) (fs := xb m c) (fd := f) (q := fullShare) (r := r) (d := false)
      (mem_duty m c (dut_fetch d hr)) () NF (NF_f d) (amount_eq m c (some (.inl d)) r false)
      ((fetched_pay m c d (sq d c p) f).trans (Entails.of_eq (by rw [← hq]; exact (payload_eq m c (some (.inl d)) r false).symm)))) $$ [Ht Hr Hf Hx]
  · isplitr; · iexact Hi
    isplitl [Hx]; · iexact Hx
    isplitl [Hf]; · iexact Hf
    isplitl [Ht]; · iexact Ht
    iexact Hr
  iintro Hc
  iapply Hk
  isplitl [Hat]; · iexact Hat
  iexact Hc

theorem step_fetchWait {Q : PUnit.{1} → sProp 𝕄} (d : Fin 2) (p : Fin 4) (r : ℕ) (hr : r < 3) (S : Finset T) :
    iprop(recs m κ ∗ fRun c d r ∗ owing c (owedS c S))
      ⊢ iprop(((xBlk m c d (fq c d r) ∗ fGot m c d r (fq c d r) ∗ owing c (owedS c S)) -∗ WP c k Q) -∗ WP c (kFetchWait (geo c) d p k) Q) := by
  unfold fRun fGot
  iintro ⟨#HR, ⟨Hat, Hc⟩, HO⟩ Hk
  iapply (wait_rule m κ c (some (.inl d)) (fetchS d) rfl r (dut_fetch d hr) (n := NF) rfl (NF_f d) S (fun u _ => by show 0 < 2 + idx u; omega)) $$ [Hat Hc HO]
  · isplitr; · iexact HR
    isplitl [Hc]; · iexact Hc
    isplitl [HO]; · iexact HO
    iexact Hat
  iintro ⟨HO, Hat, Hr, Hp⟩
  iapply Hk
  unfold pay fetchPay
  icases Hp with ⟨Hx, Hf⟩
  isplitl [Hx]; · iexact Hx
  isplitr [HO]
  · isplitl [Hat]; · iexact Hat
    isplitl [Hr]; · iexact Hr
    iexact Hf
  · iexact HO

/-! ## The accumulation -/

theorem step_acc {Q : PUnit.{1} → sProp 𝕄} (d : Fin 2) (p : Fin 4) (j : Fin 2) (r n : ℕ) (hb : bk d (sq d c p) (n + 1) = c) :
    iprop(reg c d (sq d c p) j (acc m d (sq d c p) n) ∗ fGot m c d r (sq d c p))
      ⊢ iprop(((reg c d (sq d c p) j (acc m d (sq d c p) (n + 1)) ∗ fGot m c d r (sq d c p)) -∗ WP c k Q) -∗ WP c (kAcc (geo c) d p j k) Q) := by
  unfold fGot fbuf
  iintro ⟨Ho, H1, H2, %g, %hg, Hf⟩ Hk
  rw [← reg_acc m c d (sq d c p) j n hb (acc m d (sq d c p) n) g hg]
  unfold reg
  iapply (wp_load_rect 𝒱₀ (c : Thread nD τ) none Set.univ (m := oM) (r := rO d (sq d c p) j) (Finset.Subset.refl _)) $$ Ho; iintro Ho
  iapply (wp_load 𝒱₀ (c : Thread nD τ) none Set.univ (m := fM d) (r := (rF j).toLoadRect) (View.setOn_subset_set _ _)) $$ Hf; iintro Hf
  iapply (wp_load_rect 𝒱₀ (c : Thread nD τ) none Set.univ (m := oM) (r := rO d (sq d c p) j) (Finset.Subset.refl _)) $$ Ho; iintro Ho
  iapply (wp_store 𝒱₀ (c : Thread nD τ) none Set.univ (m := oM) (r := rO d (sq d c p) j) (Mk := Finset.univ) (S := (oM.access (rO d (sq d c p) j)).set) (Finset.Subset.refl _)) $$ Ho; iintro Ho
  iapply Hk
  isplitl [Ho]; · iexact Ho
  isplitl [H1]; · iexact H1
  isplitl [H2]; · iexact H2
  iexists g
  isplitr; · ipureintro; exact hg
  iexact Hf

/-! ## The handshake -/

theorem step_bar {Q : PUnit.{1} → sProp 𝕄} :
    iprop(recs m κ ∗ dutyTok ER (barCell (pe 1 c)) 0 false ∗ dutyTok ER (barCell (pe 0 c)) 0 true ∗ atPos ER (barCell c) 0 ∅ 0
        ∗ cred (tallyAt (barCell c) () 2) ∗ barPay (pe 1 c) 0 ∗ barPay (pe 0 c) 1 ∗ owing c (O₀ c))
      ⊢ iprop(((semVal (barCell c) 0 ∗ barPay c 0 ∗ barPay c 1 ∗ owing c (owedS c Finset.univ)) -∗ WP c k Q) -∗ WP c (kBar (geo c) k) Q) := by
  unfold owing
  iintro ⟨#HR, Ht1, Ht0, Hat, Hc, Hp1, Hp0, %W, HO⟩ Hk
  ihave #HiL := (inv_at m κ (pe 1 c) none) $$ HR
  ihave #HiR := (inv_at m κ (pe 0 c) none) $$ HR
  ihave #Hi := (inv_at m κ c none) $$ HR
  ihave #HrL := (reached_at m κ (pe 1 c) none) $$ HR
  ihave #HrR := (reached_at m κ (pe 0 c) none) $$ HR
  ihave #Hl := (lev_at m κ) $$ HR
  unfold O₀
  iapply (Rounds.wp_signal 𝒱₀ ER (Rd m) (c : Thread nD τ) none (dst := (pe 1 c : Thread nD τ)) (κ := κ (pe 1 c, none)) (sem := barS) (r := 0)
      (d := false) (by rw [duties_eq m (pe 1 c) none]; exact Finset.mem_univ _) ((amount_eq m (pe 1 c) none 0 false).trans rfl) () (O₁ c) rfl)
    $$ [HO Ht1 Hp1]
  · isplitr; · iexact HiL
    isplitl [HO]; · iexact HO
    isplitl [Ht1]; · iexact Ht1
    isplitl [Hp1]; · iapply (Entails.of_eq ((payload_eq m (pe 1 c) none 0 false).trans (pay_bar m (pe 1 c) false)).symm); iexact Hp1
    iexact HrL
  iintro HO
  unfold O₁
  iapply (Rounds.wp_signal 𝒱₀ ER (Rd m) (c : Thread nD τ) none (dst := (pe 0 c : Thread nD τ)) (κ := κ (pe 0 c, none)) (sem := barS) (r := 0)
      (d := true) (by rw [duties_eq m (pe 0 c) none]; exact Finset.mem_univ _) ((amount_eq m (pe 0 c) none 0 true).trans rfl) () (owedS c Finset.univ) rfl)
    $$ [HO Ht0 Hp0]
  · isplitr; · iexact HiR
    isplitl [HO]; · iexact HO
    isplitl [Ht0]; · iexact Ht0
    isplitl [Hp0]; · iapply (Entails.of_eq ((payload_eq m (pe 0 c) none 0 true).trans (pay_bar m (pe 0 c) true)).symm); iexact Hp0
    iexact HrR
  iintro HO
  iapply (Rounds.wp_wait_rest_token 𝒱₀ ER (Rd m) (c : Thread nD τ) none (κ := κ (c, none)) (k := fun _ => k)
      (wpE_semWait_eq 𝒱₀ (c : Thread nD τ) none Set.univ) (Set.mem_univ _) () (O := owedS c Finset.univ) (W := W) (R := 0) (m := 0) (T := ∅)
      ((Nat.zero_add _).trans (expect_bar m c).symm)) $$ [Hc HO Hat]
  · isplitr; · iexact Hi
    isplitl [Hc]; · iexact Hc
    isplitl [HO]; · iexact HO
    isplitr
    · iapply (mayWait_below c (.reg barS) Finset.univ fun t _ => by
        have h := lv_bar c ()
        have : lv ((c : Thread nD τ), (.reg barS : SemLoc sig)) () = 1 := h
        omega)
      iexact Hl
    iexact Hat
  iintro ⟨HO, Hat, -, Hpay⟩
  imod (Rounds.cell_close ER (Rd m) (Set.mem_univ (κ (c, none))) (fun h => h) (R := 0 + 1) (duties_late m c none 1 le_rfl)) $$ [Hat] with Hz
  · isplitr; · iexact Hi
    iexact Hat
  ihave Hp := (Entails.of_eq (rest_bar m c)) $$ Hpay
  icases Hp with ⟨Hq0, Hq1⟩
  iapply Hk
  isplitl [Hz]; · iexact Hz
  isplitl [Hq0]; · iexact Hq0
  isplitl [Hq1]; · iexact Hq1
  iexists _; iexact HO

/-! ## Facts about the phases -/

theorem idx_next (p : Fin 6) (j d : Fin 2) (hp : p.val < 5) : idx (p + 1, j, d) = idx (p, j, d) + 4 := by
  revert p j d; decide
theorem succ_ne (p : Fin 6) (hp : p.val < 5) : p + 1 ≠ 0 := by revert p; decide
theorem p4_succ (p : Fin 6) (hp : p.val < 5) : p4 (p + 1) = p4 p + 1 := by revert p; decide
theorem lvl_succ (p : Fin 6) (hp : p.val < 3) : lvl (p + 1) = lvl p + 1 := by revert p; decide
theorem lvl_late (p : Fin 6) (hp : 3 ≤ p.val) (hp' : p.val < 5) : lvl (p + 1) = lvl p := by revert p; decide
theorem bk_own (d : Fin 2) (c : Dev nD) (p : Fin 6) (hp : p.val < 3) : bk d (sq d c (p4 p + 1)) (lvl p + 1) = c := by revert p c d; decide
theorem fq_p4 (c : Dev nD) (d : Fin 2) (p : Fin 6) : fq c d p.val = sq d c (p4 p + 1) := by revert p c d; decide

/-- What arrived at a phase after the sums is what the next phase sends. -/
theorem recv_src (p : Fin 6) (j d : Fin 2) (hp : 3 ≤ p.val) (hp' : p.val < 5) : (recvPts m c (p, j, d) : sProp 𝕄) = srcPts m c (p + 1, j, d) := by
  unfold recvPts srcPts
  rw [if_neg (succ_ne p hp')]
  dsimp only
  rw [p4_succ p hp', lvl_late p hp hp']

/-! ## The steps of the summing phases -/

/-- The fetch buffer at the first and the second step of a phase, before and after. -/
def fIn (d : Fin 2) (r : ℕ) (j : Fin 2) : sProp 𝕄 := match j with | 0 => fRun c d r | 1 => fGot m c d r (fq c d r)
def fOut (d : Fin 2) (r : ℕ) (j : Fin 2) : sProp 𝕄 := match j with | 0 => iprop(xBlk m c d (fq c d r) ∗ fGot m c d r (fq c d r)) | 1 => fGot m c d r (fq c d r)

theorem fIn_zero (d : Fin 2) (r : ℕ) : (fIn m c d r 0 : sProp 𝕄) = fRun c d r := rfl
theorem fOut_zero (d : Fin 2) (r : ℕ) : (fOut m c d r 0 : sProp 𝕄) = iprop(xBlk m c d (fq c d r) ∗ fGot m c d r (fq c d r)) := rfl

/-- A step of a summing phase after its waits. -/
def rsTail (G : Geo) (p : Fin 6) (j d : Fin 2) (k : P F) : P F := match j with
  | 0 => kFetchWait G d (p4 p + 1) <| kAcc G d (p4 p + 1) 0 <| kSend G (p + 1, 0, d) k
  | 1 => kAcc G d (p4 p + 1) 1 <| kSend G (p + 1, 1, d) k
theorem kRs0_eq (G : Geo) (j d : Fin 2) (k : P F) : kRs0 G j d k = kWait0 G (0, j, d) (rsTail G 0 j d k) := rfl
theorem kRs_eq (G : Geo) (p : Fin 6) (j d : Fin 2) (k : P F) : kRs G p j d k = kWait G (p, j, d) (rsTail G p j d k) := rfl

/-- Add the fetched chunk to what arrived and send the sum on. -/
theorem acc_send {Q : PUnit.{1} → sProp 𝕄} (p : Fin 6) (j d : Fin 2) (hp : p.val < 3) :
    iprop(recs m κ ∗ recvPts m c (p, j, d) ∗ fGot m c d p.val (fq c d p.val) ∗ pend c (p + 1, j, d) ∗ dst c (p + 1, j, d) ∗ extra (pe d c) (p + 1, j, d)
        ∗ owing c (owedS c (rem (idx (p + 1, j, d)))))
      ⊢ iprop(((fGot m c d p.val (fq c d p.val) ∗ sent c (p + 1, j, d) ∗ owing c (owedS c (rem (idx (p + 1, j, d) + 1)))) -∗ WP c k Q)
        -∗ WP c (kAcc (geo c) d (p4 p + 1) j (kSend (geo c) (p + 1, j, d) k)) Q) := by
  rw [fq_p4, ← rem_erase]
  iintro ⟨#HR, Hv, Hf, Hpd, Hd, He, HO⟩ Hk
  iapply (step_acc m c d (p4 p + 1) j p.val (lvl p) (bk_own d c p hp)) $$ [Hv Hf]
  · isplitl [Hv]; · unfold recvPts; iexact Hv
    iexact Hf
  iintro ⟨Ho, Hf⟩
  have hs : (reg c d (sq d c (p4 p + 1)) j (acc m d (sq d c (p4 p + 1)) (lvl p + 1)) : sProp 𝕄) = srcPts m c (p + 1, j, d) := by
    unfold srcPts
    rw [if_neg (succ_ne p (by omega))]
    dsimp only
    rw [p4_succ p (by omega), lvl_succ p hp]
  ihave Hs := (Entails.of_eq hs) $$ Ho
  iapply (step_send m κ c (p + 1) j d (succ_ne p (by omega)) (S := rem (idx (p + 1, j, d))) (mem_rem.mpr le_rfl)) $$ [Hpd Hd Hs He HO]
  · isplitr; · iexact HR
    isplitl [Hpd]; · iexact Hpd
    isplitl [Hd]; · iexact Hd
    isplitl [Hs]; · iexact Hs
    isplitl [He]; · iexact He
    iexact HO
  iintro ⟨Hsn, HO⟩
  iapply Hk
  isplitl [Hf]; · iexact Hf
  isplitl [Hsn]; · iexact Hsn
  iexact HO

theorem step_tail {Q : PUnit.{1} → sProp 𝕄} (p : Fin 6) (j d : Fin 2) (hp : p.val < 3) :
    iprop(recs m κ ∗ recvPts m c (p, j, d) ∗ fIn m c d p.val j ∗ pend c (p + 1, j, d) ∗ dst c (p + 1, j, d) ∗ extra (pe d c) (p + 1, j, d)
        ∗ owing c (owedS c (rem (idx (p + 1, j, d)))))
      ⊢ iprop(((fOut m c d p.val j ∗ sent c (p + 1, j, d) ∗ owing c (owedS c (rem (idx (p + 1, j, d) + 1)))) -∗ WP c k Q)
        -∗ WP c (rsTail (geo c) p j d k) Q) := by
  match j with
  | 0 =>
    iintro ⟨#HR, Hv, Hf, Hpd, Hd, He, HO⟩ Hk
    iapply (step_fetchWait m κ c d (p4 p + 1) p.val hp (rem (idx (p + 1, 0, d)))) $$ [Hf HO]
    · isplitr; · iexact HR
      isplitl [Hf]; · iapply (Entails.of_eq (fIn_zero m c d p.val)); iexact Hf
      iexact HO
    iintro ⟨Hx, Hf, HO⟩
    iapply (acc_send m κ c p 0 d hp) $$ [Hv Hf Hpd Hd He HO]
    · isplitr; · iexact HR
      isplitl [Hv]; · iexact Hv
      isplitl [Hf]; · iexact Hf
      isplitl [Hpd]; · iexact Hpd
      isplitl [Hd]; · iexact Hd
      isplitl [He]; · iexact He
      iexact HO
    iintro ⟨Hf, Hs, HO⟩
    iapply Hk
    isplitl [Hx Hf]
    · iapply (Entails.of_eq (fOut_zero m c d p.val).symm)
      isplitl [Hx]; · iexact Hx
      iexact Hf
    isplitl [Hs]; · iexact Hs
    iexact HO
  | 1 =>
    exact acc_send m κ c p 1 d hp

/-- A step of a summing phase. -/
theorem step_rs {Q : PUnit.{1} → sProp 𝕄} (p : Fin 6) (j d : Fin 2) (hp : p.val < 3) (w : P F → P F)
    (hw : w = kWait0 (geo c) (p, j, d) ∨ w = kWait (geo c) (p, j, d)) :
    iprop(recs m κ ∗ sent c (p, j, d) ∗ fIn m c d p.val j ∗ pend c (p + 1, j, d) ∗ dst c (p + 1, j, d) ∗ extra (pe d c) (p + 1, j, d)
        ∗ owing c (owedS c (rem (idx (p + 1, j, d)))))
      ⊢ iprop(((done c (p, j, d) ∗ srcPts m c (p, j, d) ∗ extra c (p, j, d) ∗ fOut m c d p.val j ∗ sent c (p + 1, j, d)
          ∗ owing c (owedS c (rem (idx (p + 1, j, d) + 1)))) -∗ WP c k Q)
        -∗ WP c (w (rsTail (geo c) p j d k)) Q) := by
  have hlt : ∀ u ∈ rem (idx (p + 1, j, d)), idx (p, j, d) < idx u := fun u hu => by
    have h := mem_rem.mp hu
    rw [idx_next p j d (by omega)] at h
    omega
  have hstep : iprop(recs m κ ∗ sent c (p, j, d) ∗ owing c (owedS c (rem (idx (p + 1, j, d)))))
      ⊢ iprop(((done c (p, j, d) ∗ srcPts m c (p, j, d) ∗ recvPts m c (p, j, d) ∗ extra c (p, j, d) ∗ owing c (owedS c (rem (idx (p + 1, j, d)))))
        -∗ WP c (rsTail (geo c) p j d k) Q) -∗ WP c (w (rsTail (geo c) p j d k)) Q) := by
    rcases hw with rfl | rfl
    · exact step_wait0 m κ c (p, j, d) _ hlt
    · exact step_wait m κ c (p, j, d) _ hlt
  iintro ⟨#HR, Hs, Hf, Hpd, Hd, He, HO⟩ Hk
  iapply hstep $$ [Hs HO]
  · isplitr; · iexact HR
    isplitl [Hs]; · iexact Hs
    iexact HO
  iintro ⟨Hdn, Hsrc, Hv, Hex, HO⟩
  iapply (step_tail m κ c p j d hp) $$ [Hv Hf Hpd Hd He HO]
  · isplitr; · iexact HR
    isplitl [Hv]; · iexact Hv
    isplitl [Hf]; · iexact Hf
    isplitl [Hpd]; · iexact Hpd
    isplitl [Hd]; · iexact Hd
    isplitl [He]; · iexact He
    iexact HO
  iintro ⟨Hf, Hs, HO⟩
  iapply Hk
  isplitl [Hdn]; · iexact Hdn
  isplitl [Hsrc]; · iexact Hsrc
  isplitl [Hex]; · iexact Hex
  isplitl [Hf]; · iexact Hf
  isplitl [Hs]; · iexact Hs
  iexact HO

/-- A step of a later phase but the last: what arrived goes on. -/
theorem step_ag {Q : PUnit.{1} → sProp 𝕄} (p : Fin 6) (j d : Fin 2) (hp : 3 ≤ p.val) (hp' : p.val < 5) :
    iprop(recs m κ ∗ sent c (p, j, d) ∗ pend c (p + 1, j, d) ∗ dst c (p + 1, j, d) ∗ extra (pe d c) (p + 1, j, d) ∗ owing c (owedS c (rem (idx (p + 1, j, d)))))
      ⊢ iprop(((done c (p, j, d) ∗ srcPts m c (p, j, d) ∗ extra c (p, j, d) ∗ sent c (p + 1, j, d) ∗ owing c (owedS c (rem (idx (p + 1, j, d) + 1)))) -∗ WP c k Q)
        -∗ WP c (kAg (geo c) p j d k) Q) := by
  iintro ⟨#HR, Hs, Hpd, Hd, He, HO⟩ Hk
  iapply (step_wait m κ c (p, j, d) (rem (idx (p + 1, j, d))) (fun u hu => by
    have h := mem_rem.mp hu
    rw [idx_next p j d hp'] at h
    omega)) $$ [Hs HO]
  · isplitr; · iexact HR
    isplitl [Hs]; · iexact Hs
    iexact HO
  iintro ⟨Hdn, Hsrc, Hv, Hex, HO⟩
  ihave Hv := (Entails.of_eq (recv_src m c p j d hp hp')) $$ Hv
  iapply (step_send m κ c (p + 1) j d (succ_ne p hp') (S := rem (idx (p + 1, j, d))) (mem_rem.mpr le_rfl)) $$ [Hpd Hd Hv He HO]
  · isplitr; · iexact HR
    isplitl [Hpd]; · iexact Hpd
    isplitl [Hd]; · iexact Hd
    isplitl [Hv]; · iexact Hv
    isplitl [He]; · iexact He
    iexact HO
  iintro ⟨Hs, HO⟩
  iapply Hk
  isplitl [Hdn]; · iexact Hdn
  isplitl [Hsrc]; · iexact Hsrc
  isplitl [Hex]; · iexact Hex
  isplitl [Hs]; · iexact Hs
  rw [← rem_erase]; iexact HO

end Waits

end Cert.KernelIdeal.AllReduce
-- ==== Proof.KernelIdealBody.lean ====
/-
# The body

The regions a device hands to its neighbours along with its transfers, the pair of steps of each phase and half, and
from them the whole body: from the argument and a result's buffer of any contents to the buffer at the finished sums.
-/
module

public import proofs.«01_k».proof.Proof.KernelIdealPhases

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is handed over along with a transfer -/

section Give
variable (c : Dev nD) (j : Fin 2)

theorem srcPts_any (p : Fin 6) (d : Fin 2) (hp : p ≠ 0) : (srcPts m c (p, j, d) : sProp 𝕄) ⊢ anyReg c d (sq d c (p4 p)) j := by
  unfold srcPts anyReg
  rw [if_neg hp]
  iintro H
  iexists _
  iexact H

/-- The neighbour in the other direction writes to this device. -/
theorem dst_back (p : Fin 6) (d : Fin 2) : (dst (pe (1 - d) c) (p, j, d) : sProp 𝕄) = anyReg c d (sq d c (p4 p + 1)) j := by
  have h1 : ∀ (c : Dev nD) (d : Fin 2), pe d (pe (1 - d) c) = c := by decide
  have h2 : ∀ (c : Dev nD) (d : Fin 2) (q : Fin 4), sq d (pe (1 - d) c) q = sq d c (q + 1) := by decide
  unfold dst
  dsimp only
  rw [h1, h2]

theorem extra0 (c : Dev nD) (p : Fin 6) (hp : p = 3 ∨ p = 4) : (extra c (p, j, 0) : sProp 𝕄) = dst c (p + 1, j, 1) := by
  unfold extra; rw [if_pos ⟨rfl, hp⟩]
theorem extra1 (c : Dev nD) (p : Fin 6) (hp : p = 2 ∨ p = 3) : (extra c (p, j, 1) : sProp 𝕄) = dst c (p + 2, j, 0) := by
  unfold extra; rw [if_neg (fun h => absurd (show (1 : Fin 2) = 0 from h.1) (by decide)), if_pos ⟨rfl, hp⟩]

theorem give_2 : (srcPts m c (1, j, 0) : sProp 𝕄) ⊢ extra (pe 1 c) (2, j, 1) := by
  rw [extra1 j (pe 1 c) 2 (.inl rfl), show (dst (pe 1 c) (2 + 2, j, 0) : sProp 𝕄) = _ from dst_back c j 4 0]
  exact srcPts_any m c j 1 0 (by decide)
theorem give_3 : (srcPts m c (1, j, 1) : sProp 𝕄) ⊢ extra (pe 0 c) (3, j, 0) := by
  rw [extra0 j (pe 0 c) 3 (.inl rfl), show (dst (pe 0 c) (3 + 1, j, 1) : sProp 𝕄) = _ from dst_back c j 4 1]
  exact srcPts_any m c j 1 1 (by decide)
theorem give_3' : (srcPts m c (2, j, 0) : sProp 𝕄) ⊢ extra (pe 1 c) (3, j, 1) := by
  rw [extra1 j (pe 1 c) 3 (.inr rfl), show (dst (pe 1 c) (3 + 2, j, 0) : sProp 𝕄) = _ from dst_back c j 5 0]
  exact srcPts_any m c j 2 0 (by decide)
theorem give_4 : (srcPts m c (2, j, 1) : sProp 𝕄) ⊢ extra (pe 0 c) (4, j, 0) := by
  rw [extra0 j (pe 0 c) 4 (.inr rfl), show (dst (pe 0 c) (4 + 1, j, 1) : sProp 𝕄) = _ from dst_back c j 5 1]
  exact srcPts_any m c j 2 1 (by decide)
theorem give_none (c : Dev nD) (p : Fin 6) (d : Fin 2) (h1 : ¬(d = 0 ∧ (p = 3 ∨ p = 4))) (h2 : ¬(d = 1 ∧ (p = 2 ∨ p = 3))) :
    (iprop(emp) : sProp 𝕄) ⊢ extra c (p, j, d) := Entails.of_eq (extra_emp c p j d h1 h2).symm

end Give

/-! ## The pairs of steps -/

/-- Both directions' transfers of a phase and half. -/
def two (Φ : T → sProp 𝕄) (p : Fin 6) (j : Fin 2) : sProp 𝕄 := iprop(Φ (p, j, 0) ∗ Φ (p, j, 1))

/-- What is owed at a half's pair of steps of phase `p`, and after it. -/
def owp (c : Dev nD) (p : Fin 6) (j : Fin 2) : sProp 𝕄 := owing c (owedS c (rem (4 * p.val + 2 * j.val + 4)))
def owp' (c : Dev nD) (p : Fin 6) (j : Fin 2) : sProp 𝕄 := owing c (owedS c (rem (4 * p.val + 2 * j.val + 6)))

theorem owp_1 (c : Dev nD) (p : Fin 6) : (owp' c p 0 : sProp 𝕄) = owp c p 1 := by
  unfold owp owp'; congr 3
theorem owp_next (c : Dev nD) (p : Fin 6) (hp : p.val < 5) : (owp' c p 1 : sProp 𝕄) = owp c (p + 1) 0 := by
  unfold owp owp'
  rw [show 4 * p.val + 2 * (1 : Fin 2).val + 6 = 4 * (p + 1).val + 2 * (0 : Fin 2).val + 4 from by revert p; decide]

section Pairs
variable (κ : Dev nD × CK → ℕ) (c : Dev nD) {k : P F} (j : Fin 2)

theorem idx_pair (p : Fin 6) (hp : p.val < 5) :
    idx (p + 1, j, 0) = 4 * p.val + 2 * j.val + 4 ∧ idx (p + 1, j, 1) = idx (p + 1, j, 0) + 1 ∧ idx (p + 1, j, 1) + 1 = 4 * p.val + 2 * j.val + 6 := by
  revert p j; decide

/-- A pair of steps of a summing phase, given what the two transfers it starts hand over. -/
theorem pair_rs {Q : PUnit.{1} → sProp 𝕄} (p : Fin 6) (hp : p.val < 3) (w : Fin 2 → P F → P F)
    (hw : ∀ d, w d = kWait0 (geo c) (p, j, d) ∨ w d = kWait (geo c) (p, j, d)) (A : sProp 𝕄) (B : sProp 𝕄)
    (hA : A ⊢ extra (pe 0 c) (p + 1, j, 0)) (hB : iprop(srcPts m c (p, j, 0)) ⊢ iprop(extra (pe 1 c) (p + 1, j, 1) ∗ B)) :
    iprop(recs m κ ∗ two (sent c) p j ∗ (fIn m c 0 p.val j ∗ fIn m c 1 p.val j) ∗ two (pend c) (p + 1) j ∗ two (dst c) (p + 1) j ∗ A ∗ owp c p j)
      ⊢ iprop(((two (done c) p j ∗ B ∗ srcPts m c (p, j, 1) ∗ two (extra c) p j ∗ (fOut m c 0 p.val j ∗ fOut m c 1 p.val j) ∗ two (sent c) (p + 1) j ∗ owp' c p j) -∗ WP c k Q)
        -∗ WP c (w 0 (rsTail (geo c) p j 0 (w 1 (rsTail (geo c) p j 1 k)))) Q) := by
  obtain ⟨i0, i1, i2⟩ := idx_pair j p (by omega)
  unfold two owp owp'
  rw [← i0, ← i2, i1]
  iintro ⟨#HR, ⟨Hs0, Hs1⟩, ⟨Hf0, Hf1⟩, ⟨Hp0, Hp1⟩, ⟨Hd0, Hd1⟩, HA, HO⟩ Hk
  ihave He := hA $$ HA
  iapply (step_rs m κ c p j 0 hp (w 0) (hw 0)) $$ [Hs0 Hf0 Hp0 Hd0 He HO]
  · isplitr; · iexact HR
    isplitl [Hs0]; · iexact Hs0
    isplitl [Hf0]; · iexact Hf0
    isplitl [Hp0]; · iexact Hp0
    isplitl [Hd0]; · iexact Hd0
    isplitl [He]; · iexact He
    iexact HO
  iintro ⟨Hn0, Hc0, Hx0, Hf0, Hs0, HO⟩
  ihave HB := hB $$ Hc0
  icases HB with ⟨He, HB⟩
  iapply (step_rs m κ c p j 1 hp (w 1) (hw 1)) $$ [Hs1 Hf1 Hp1 Hd1 He HO]
  · isplitr; · iexact HR
    isplitl [Hs1]; · iexact Hs1
    isplitl [Hf1]; · iexact Hf1
    isplitl [Hp1]; · iexact Hp1
    isplitl [Hd1]; · iexact Hd1
    isplitl [He]; · iexact He
    rw [i1]; iexact HO
  iintro ⟨Hn1, Hc1, Hx1, Hf1, Hs1, HO⟩
  iapply Hk
  isplitl [Hn0 Hn1]
  · isplitl [Hn0]; · iexact Hn0
    iexact Hn1
  isplitl [HB]; · iexact HB
  isplitl [Hc1]; · iexact Hc1
  isplitl [Hx0 Hx1]
  · isplitl [Hx0]; · iexact Hx0
    iexact Hx1
  isplitl [Hf0 Hf1]
  · isplitl [Hf0]; · iexact Hf0
    iexact Hf1
  isplitl [Hs0 Hs1]
  · isplitl [Hs0]; · iexact Hs0
    iexact Hs1
  rw [i1]; iexact HO

/-- A pair of steps of a later phase: `D` is where the second transfer goes. -/
theorem pair_ag {Q : PUnit.{1} → sProp 𝕄} (p : Fin 6) (hp : 3 ≤ p.val) (hp' : p.val < 5) (A : sProp 𝕄)
    (hA : A ⊢ extra (pe 0 c) (p + 1, j, 0)) (hB : (iprop(emp) : sProp 𝕄) ⊢ extra (pe 1 c) (p + 1, j, 1))
    (hD : (extra c (p, j, 0) : sProp 𝕄) = dst c (p + 1, j, 1)) :
    iprop(recs m κ ∗ two (sent c) p j ∗ two (pend c) (p + 1) j ∗ dst c (p + 1, j, 0) ∗ A ∗ owp c p j)
      ⊢ iprop(((two (done c) p j ∗ two (srcPts m c) p j ∗ extra c (p, j, 1) ∗ two (sent c) (p + 1) j ∗ owp' c p j) -∗ WP c k Q)
        -∗ WP c (kAg (geo c) p j 0 (kAg (geo c) p j 1 k)) Q) := by
  obtain ⟨i0, i1, i2⟩ := idx_pair j p (by omega)
  unfold two owp owp'
  rw [← i0, ← i2, i1]
  iintro ⟨#HR, ⟨Hs0, Hs1⟩, ⟨Hp0, Hp1⟩, Hd0, HA, HO⟩ Hk
  ihave He := hA $$ HA
  iapply (step_ag m κ c p j 0 hp hp') $$ [Hs0 Hp0 Hd0 He HO]
  · isplitr; · iexact HR
    isplitl [Hs0]; · iexact Hs0
    isplitl [Hp0]; · iexact Hp0
    isplitl [Hd0]; · iexact Hd0
    isplitl [He]; · iexact He
    iexact HO
  iintro ⟨Hn0, Hc0, Hx0, Hs0, HO⟩
  ihave Hd1 := (Entails.of_eq hD) $$ Hx0
  iapply (step_ag m κ c p j 1 hp hp') $$ [Hs1 Hp1 Hd1 HO]
  · isplitr; · iexact HR
    isplitl [Hs1]; · iexact Hs1
    isplitl [Hp1]; · iexact Hp1
    isplitl [Hd1]; · iexact Hd1
    isplitr; · iapply hB; iempintro
    rw [i1]; iexact HO
  iintro ⟨Hn1, Hc1, Hx1, Hs1, HO⟩
  iapply Hk
  isplitl [Hn0 Hn1]
  · isplitl [Hn0]; · iexact Hn0
    iexact Hn1
  isplitl [Hc0 Hc1]
  · isplitl [Hc0]; · iexact Hc0
    iexact Hc1
  isplitl [Hx1]; · iexact Hx1
  isplitl [Hs0 Hs1]
  · isplitl [Hs0]; · iexact Hs0
    iexact Hs1
  rw [i1]; iexact HO

/-- The last pair of waits. -/
theorem pair_last {Q : PUnit.{1} → sProp 𝕄} :
    iprop(recs m κ ∗ two (sent c) 5 j ∗ owing c 0)
      ⊢ iprop(((two (done c) 5 j ∗ two (srcPts m c) 5 j ∗ two (recvPts m c) 5 j ∗ owing c 0) -∗ WP c k Q)
        -∗ WP c (kWait (geo c) (5, j, 0) (kWait (geo c) (5, j, 1) k)) Q) := by
  unfold two
  rw [← owedS_empty c]
  iintro ⟨#HR, ⟨Hs0, Hs1⟩, HO⟩ Hk
  iapply (step_wait m κ c (5, j, 0) ∅ (fun u hu => absurd hu (Finset.notMem_empty u))) $$ [Hs0 HO]
  · isplitr; · iexact HR
    isplitl [Hs0]; · iexact Hs0
    iexact HO
  iintro ⟨Hn0, Hc0, Hv0, -, HO⟩
  iapply (step_wait m κ c (5, j, 1) ∅ (fun u hu => absurd hu (Finset.notMem_empty u))) $$ [Hs1 HO]
  · isplitr; · iexact HR
    isplitl [Hs1]; · iexact Hs1
    iexact HO
  iintro ⟨Hn1, Hc1, Hv1, -, HO⟩
  iapply Hk
  isplitl [Hn0 Hn1]
  · isplitl [Hn0]; · iexact Hn0
    iexact Hn1
  isplitl [Hc0 Hc1]
  · isplitl [Hc0]; · iexact Hc0
    iexact Hc1
  isplitl [Hv0 Hv1]
  · isplitl [Hv0]; · iexact Hv0
    iexact Hv1
  iexact HO

end Pairs

/-! ## The phases -/

/-- All four transfers of a phase. -/
def four (Φ : T → sProp 𝕄) (p : Fin 6) : sProp 𝕄 := iprop(two Φ p 0 ∗ two Φ p 1)
theorem four_eq (Φ : T → sProp 𝕄) (p : Fin 6) : four Φ p = iprop((Φ (p, 0, 0) ∗ Φ (p, 0, 1)) ∗ (Φ (p, 1, 0) ∗ Φ (p, 1, 1))) := rfl
/-- Both fetch buffers idle; the tokens of both fetches of a round; both blocks of the argument they read. -/
def idle (c : Dev nD) (r : ℕ) : sProp 𝕄 := iprop(fIdle c 0 r ∗ fIdle c 1 r)
def ftok (c : Dev nD) (r : ℕ) : sProp 𝕄 := iprop(dutyTok ER (fetchCell c 0) r false ∗ dutyTok ER (fetchCell c 1) r false)
def xs (c : Dev nD) (r : ℕ) : sProp 𝕄 := iprop(xBlk m c 0 (fq c 0 r) ∗ xBlk m c 1 (fq c 1 r))

theorem fIn_one (c : Dev nD) (d : Fin 2) (r : ℕ) : (fIn m c d r 1 : sProp 𝕄) = fGot m c d r (fq c d r) := rfl
theorem fOut_one (c : Dev nD) (d : Fin 2) (r : ℕ) : (fOut m c d r 1 : sProp 𝕄) = fGot m c d r (fq c d r) := rfl

section Phase
variable (κ : Dev nD × CK → ℕ) (c : Dev nD) {k : P F}

/-- A summing phase. -/
theorem phase_rs {Q : PUnit.{1} → sProp 𝕄} (p : Fin 6) (hp : p.val < 3) (w : Fin 2 → Fin 2 → P F → P F)
    (hw : ∀ j d, w j d = kWait0 (geo c) (p, j, d) ∨ w j d = kWait (geo c) (p, j, d)) (A B : Fin 2 → sProp 𝕄)
    (hA : ∀ j, A j ⊢ extra (pe 0 c) (p + 1, j, 0)) (hB : ∀ j, iprop(srcPts m c (p, j, 0)) ⊢ iprop(extra (pe 1 c) (p + 1, j, 1) ∗ B j)) :
    iprop(recs m κ ∗ four (sent c) p ∗ ftok c p.val ∗ idle c p.val ∗ xs m c p.val ∗ four (pend c) (p + 1) ∗ four (dst c) (p + 1) ∗ (A 0 ∗ A 1) ∗ owp c p 0)
      ⊢ iprop(((four (done c) p ∗ (B 0 ∗ B 1) ∗ (srcPts m c (p, 0, 1) ∗ srcPts m c (p, 1, 1)) ∗ four (extra c) p ∗ idle c (p.val + 1) ∗ xs m c p.val
            ∗ four (sent c) (p + 1) ∗ owp' c p 1) -∗ WP c k Q)
        -∗ WP c (kFetch (geo c) 0 (p4 p + 1) (kFetch (geo c) 1 (p4 p + 1) (kFour (fun j d k => w j d (rsTail (geo c) p j d k)) k))) Q) := by
  unfold four ftok idle xs
  iintro ⟨#HR, ⟨Hs0, Hs1⟩, ⟨Ht0, Ht1⟩, ⟨Hi0, Hi1⟩, ⟨Hx0, Hx1⟩, ⟨Hp0, Hp1⟩, ⟨Hd0, Hd1⟩, ⟨HA0, HA1⟩, HO⟩ Hk
  iapply (step_fetch m κ c 0 (p4 p + 1) p.val hp (fq_p4 c 0 p)) $$ [Ht0 Hi0 Hx0]
  · isplitr; · iexact HR
    isplitl [Ht0]; · iexact Ht0
    isplitl [Hi0]; · iexact Hi0
    rw [← fq_p4 c 0 p]; iexact Hx0
  iintro Hf0
  iapply (step_fetch m κ c 1 (p4 p + 1) p.val hp (fq_p4 c 1 p)) $$ [Ht1 Hi1 Hx1]
  · isplitr; · iexact HR
    isplitl [Ht1]; · iexact Ht1
    isplitl [Hi1]; · iexact Hi1
    rw [← fq_p4 c 1 p]; iexact Hx1
  iintro Hf1
  iapply (pair_rs m κ c 0 p hp (w 0) (hw 0) (A 0) (B 0) (hA 0) (hB 0)) $$ [Hs0 Hf0 Hf1 Hp0 Hd0 HA0 HO]
  · isplitr; · iexact HR
    isplitl [Hs0]; · iexact Hs0
    isplitl [Hf0 Hf1]
    · rw [fIn_zero, fIn_zero]
      isplitl [Hf0]; · iexact Hf0
      iexact Hf1
    isplitl [Hp0]; · iexact Hp0
    isplitl [Hd0]; · iexact Hd0
    isplitl [HA0]; · iexact HA0
    iexact HO
  rw [fOut_zero, fOut_zero, owp_1]
  iintro ⟨Hn0, HB0, Hc0, He0, ⟨⟨Hx0, Hf0⟩, ⟨Hx1, Hf1⟩⟩, Hs0, HO⟩
  iapply (pair_rs m κ c 1 p hp (w 1) (hw 1) (A 1) (B 1) (hA 1) (hB 1)) $$ [Hs1 Hf0 Hf1 Hp1 Hd1 HA1 HO]
  · isplitr; · iexact HR
    isplitl [Hs1]; · iexact Hs1
    isplitl [Hf0 Hf1]
    · rw [fIn_one, fIn_one]
      isplitl [Hf0]; · iexact Hf0
      iexact Hf1
    isplitl [Hp1]; · iexact Hp1
    isplitl [Hd1]; · iexact Hd1
    isplitl [HA1]; · iexact HA1
    iexact HO
  rw [fOut_one, fOut_one]
  iintro ⟨Hn1, HB1, Hc1, He1, ⟨Hf0, Hf1⟩, Hs1, HO⟩
  iapply Hk
  isplitl [Hn0 Hn1]
  · isplitl [Hn0]; · iexact Hn0
    iexact Hn1
  isplitl [HB0 HB1]
  · isplitl [HB0]; · iexact HB0
    iexact HB1
  isplitl [Hc0 Hc1]
  · isplitl [Hc0]; · iexact Hc0
    iexact Hc1
  isplitl [He0 He1]
  · isplitl [He0]; · iexact He0
    iexact He1
  isplitl [Hf0 Hf1]
  · isplitl [Hf0]
    · iapply (fGot_idle m c 0 p.val (fq c 0 p.val)); iexact Hf0
    · iapply (fGot_idle m c 1 p.val (fq c 1 p.val)); iexact Hf1
  isplitl [Hx0 Hx1]
  · isplitl [Hx0]; · iexact Hx0
    iexact Hx1
  isplitl [Hs0 Hs1]
  · isplitl [Hs0]; · iexact Hs0
    iexact Hs1
  iexact HO

/-- A later phase. -/
theorem phase_ag {Q : PUnit.{1} → sProp 𝕄} (p : Fin 6) (hp : 3 ≤ p.val) (hp' : p.val < 5) (A : Fin 2 → sProp 𝕄)
    (hA : ∀ j, A j ⊢ extra (pe 0 c) (p + 1, j, 0)) (hB : ∀ j, (iprop(emp) : sProp 𝕄) ⊢ extra (pe 1 c) (p + 1, j, 1))
    (hD : ∀ j, (extra c (p, j, 0) : sProp 𝕄) = dst c (p + 1, j, 1)) :
    iprop(recs m κ ∗ four (sent c) p ∗ four (pend c) (p + 1) ∗ (dst c (p + 1, 0, 0) ∗ dst c (p + 1, 1, 0)) ∗ (A 0 ∗ A 1) ∗ owp c p 0)
      ⊢ iprop(((four (done c) p ∗ four (srcPts m c) p ∗ (extra c (p, 0, 1) ∗ extra c (p, 1, 1)) ∗ four (sent c) (p + 1) ∗ owp' c p 1) -∗ WP c k Q)
        -∗ WP c (kFour (kAg (geo c) p) k) Q) := by
  unfold four
  iintro ⟨#HR, ⟨Hs0, Hs1⟩, ⟨Hp0, Hp1⟩, ⟨Hd0, Hd1⟩, ⟨HA0, HA1⟩, HO⟩ Hk
  iapply (pair_ag m κ c 0 p hp hp' (A 0) (hA 0) (hB 0) (hD 0)) $$ [Hs0 Hp0 Hd0 HA0 HO]
  · isplitr; · iexact HR
    isplitl [Hs0]; · iexact Hs0
    isplitl [Hp0]; · iexact Hp0
    isplitl [Hd0]; · iexact Hd0
    isplitl [HA0]; · iexact HA0
    iexact HO
  rw [owp_1]
  iintro ⟨Hn0, Hc0, He0, Hs0, HO⟩
  iapply (pair_ag m κ c 1 p hp hp' (A 1) (hA 1) (hB 1) (hD 1)) $$ [Hs1 Hp1 Hd1 HA1 HO]
  · isplitr; · iexact HR
    isplitl [Hs1]; · iexact Hs1
    isplitl [Hp1]; · iexact Hp1
    isplitl [Hd1]; · iexact Hd1
    isplitl [HA1]; · iexact HA1
    iexact HO
  iintro ⟨Hn1, Hc1, He1, Hs1, HO⟩
  iapply Hk
  isplitl [Hn0 Hn1]
  · isplitl [Hn0]; · iexact Hn0
    iexact Hn1
  isplitl [Hc0 Hc1]
  · isplitl [Hc0]; · iexact Hc0
    iexact Hc1
  isplitl [He0 He1]
  · isplitl [He0]; · iexact He0
    iexact He1
  isplitl [Hs0 Hs1]
  · isplitl [Hs0]; · iexact Hs0
    iexact Hs1
  iexact HO

/-- The last phase. -/
theorem phase_last {Q : PUnit.{1} → sProp 𝕄} :
    iprop(recs m κ ∗ four (sent c) 5 ∗ owing c 0)
      ⊢ iprop(((four (done c) 5 ∗ four (srcPts m c) 5 ∗ four (recvPts m c) 5 ∗ owing c 0) -∗ WP c k Q)
        -∗ WP c (kFour (fun j d => kWait (geo c) (5, j, d)) k) Q) := by
  unfold four
  iintro ⟨#HR, ⟨Hs0, Hs1⟩, HO⟩ Hk
  iapply (pair_last m κ c 0) $$ [Hs0 HO]
  · isplitr; · iexact HR
    isplitl [Hs0]; · iexact Hs0
    iexact HO
  iintro ⟨Hn0, Hc0, Hv0, HO⟩
  iapply (pair_last m κ c 1) $$ [Hs1 HO]
  · isplitr; · iexact HR
    isplitl [Hs1]; · iexact Hs1
    iexact HO
  iintro ⟨Hn1, Hc1, Hv1, HO⟩
  iapply Hk
  isplitl [Hn0 Hn1]
  · isplitl [Hn0]; · iexact Hn0
    iexact Hn1
  isplitl [Hc0 Hc1]
  · isplitl [Hc0]; · iexact Hc0
    iexact Hc1
  isplitl [Hv0 Hv1]
  · isplitl [Hv0]; · iexact Hv0
    iexact Hv1
  iexact HO

/-! ## The handshake and the first four transfers -/

theorem bigSep_42 (Φ : Fin 4 × Fin 2 → sProp 𝕄) : bigSep Finset.univ Φ
    = iprop((Φ (0, 0) ∗ Φ (0, 1)) ∗ (Φ (1, 0) ∗ Φ (1, 1)) ∗ (Φ (2, 0) ∗ Φ (2, 1)) ∗ (Φ (3, 0) ∗ Φ (3, 1))) := by
  rw [bigSep_univ_prod, bigSep_univ_eq_bigSepL [0, 1, 2, 3] (by decide) (by decide)]
  simp only [bigSepL_cons_cons, bigSepL_singleton, bigSep_fin_two]
  rfl
theorem bigSep_22 (Φ : Fin 2 × Fin 2 → sProp 𝕄) : bigSep Finset.univ Φ = iprop((Φ (0, 0) ∗ Φ (0, 1)) ∗ (Φ (1, 0) ∗ Φ (1, 1))) := by
  rw [bigSep_univ_prod, bigSep_fin_two]
  simp only [bigSep_fin_two]
  rfl
theorem bigSep_T (Φ : T → sProp 𝕄) : bigSep Finset.univ Φ
    = iprop(four Φ 0 ∗ four Φ 1 ∗ four Φ 2 ∗ four Φ 3 ∗ four Φ 4 ∗ four Φ 5) := by
  rw [bigSep_univ_prod, bigSep_univ_eq_bigSepL [0, 1, 2, 3, 4, 5] (by decide) (by decide)]
  simp only [bigSepL_cons_cons, bigSepL_singleton, bigSep_22]
  rfl

theorem barPay_eq (c : Dev nD) (d : Fin 2) : (barPay c d : sProp 𝕄)
    = iprop((dst c (0, 0, d) ∗ dst c (0, 1, d)) ∗ (dst c (1, 0, d) ∗ dst c (1, 1, d)) ∗ (dst c (2, 0, d) ∗ dst c (2, 1, d)) ∗ (dst c (3, 0, d) ∗ dst c (3, 1, d))) := by
  unfold barPay
  rw [bigSep_42]
  rfl

/-- What the neighbours hand over at the start is where the first four phases' transfers go. -/
theorem bar_dsts : iprop(barPay c 0 ∗ barPay c 1) ⊢ (iprop(four (dst c) 0 ∗ four (dst c) 1 ∗ four (dst c) 2 ∗ four (dst c) 3) : sProp 𝕄) := by
  rw [barPay_eq, barPay_eq]
  iintro ⟨⟨⟨A00, A01⟩, ⟨A10, A11⟩, ⟨A20, A21⟩, A30, A31⟩, ⟨⟨B00, B01⟩, ⟨B10, B11⟩, ⟨B20, B21⟩, B30, B31⟩⟩
  unfold four two
  isplitl [A00 A01 B00 B01]
  · isplitl [A00 B00]
    · isplitl [A00]; · iexact A00
      iexact B00
    · isplitl [A01]; · iexact A01
      iexact B01
  isplitl [A10 A11 B10 B11]
  · isplitl [A10 B10]
    · isplitl [A10]; · iexact A10
      iexact B10
    · isplitl [A11]; · iexact A11
      iexact B11
  isplitl [A20 A21 B20 B21]
  · isplitl [A20 B20]
    · isplitl [A20]; · iexact A20
      iexact B20
    · isplitl [A21]; · iexact A21
      iexact B21
  · isplitl [A30 B30]
    · isplitl [A30]; · iexact A30
      iexact B30
    · isplitl [A31]; · iexact A31
      iexact B31

/-- What the handshake runs on. -/
def barIn (c : Dev nD) : sProp 𝕄 :=
  iprop(dutyTok ER (barCell (pe 1 c)) 0 false ∗ dutyTok ER (barCell (pe 0 c)) 0 true ∗ atPos ER (barCell c) 0 ∅ 0 ∗ cred (tallyAt (barCell c) () 2))

theorem rem4 : ((((Finset.univ : Finset T).erase (0, 0, 0)).erase (0, 1, 0)).erase (0, 0, 1)).erase (0, 1, 1) = rem 4 := by
  ext t
  rw [mem_rem]
  revert t
  decide

/-- The start: the handshake and the first phase's transfers. -/
theorem phase_start {Q : PUnit.{1} → sProp 𝕄} :
    iprop(recs m κ ∗ barIn c ∗ (barPay (pe 1 c) 0 ∗ barPay (pe 0 c) 1) ∗ four (pend c) 0 ∗ four (srcPts m c) 0 ∗ owing c (O₀ c))
      ⊢ iprop(((semVal (barCell c) 0 ∗ four (dst c) 1 ∗ four (dst c) 2 ∗ four (dst c) 3 ∗ four (sent c) 0 ∗ owp c 0 0) -∗ WP c k Q)
        -∗ WP c (kBar (geo c) (kSend0 (geo c) (0, 0, 0) (kSend0 (geo c) (0, 1, 0) (kSend0 (geo c) (0, 0, 1) (kSend0 (geo c) (0, 1, 1) k))))) Q) := by
  iintro ⟨#HR, Hb, ⟨Hg1, Hg0⟩, Hp, Hx, HO⟩ Hk
  unfold barIn
  icases Hb with ⟨Hb1, Hb0, Hba, Hbc⟩
  iapply (step_bar m κ c) $$ [Hb1 Hb0 Hba Hbc Hg1 Hg0 HO]
  · isplitr; · iexact HR
    isplitl [Hb1]; · iexact Hb1
    isplitl [Hb0]; · iexact Hb0
    isplitl [Hba]; · iexact Hba
    isplitl [Hbc]; · iexact Hbc
    isplitl [Hg1]; · iexact Hg1
    isplitl [Hg0]; · iexact Hg0
    iexact HO
  iintro ⟨Hsem, Hq0, Hq1, HO⟩
  ihave Hd := (bar_dsts c) $$ [Hq0 Hq1]
  · isplitl [Hq0]; · iexact Hq0
    iexact Hq1
  icases Hd with ⟨Hd, Hd1, Hd2, Hd3⟩
  unfold four two
  icases Hd with ⟨⟨Ha00, Ha01⟩, Ha10, Ha11⟩
  icases Hp with ⟨⟨Hp00, Hp01⟩, Hp10, Hp11⟩
  icases Hx with ⟨⟨Hx00, Hx01⟩, Hx10, Hx11⟩
  iapply (step_send0 m κ c 0 0 (S := Finset.univ) (Finset.mem_univ _)) $$ [Hp00 Ha00 Hx00 HO]
  · isplitr; · iexact HR
    isplitl [Hp00]; · iexact Hp00
    isplitl [Ha00]; · iexact Ha00
    isplitl [Hx00]; · iexact Hx00
    iexact HO
  iintro ⟨Hs00, HO⟩
  iapply (step_send0 m κ c 1 0 (S := Finset.univ.erase (0, 0, 0)) (by decide)) $$ [Hp10 Ha10 Hx10 HO]
  · isplitr; · iexact HR
    isplitl [Hp10]; · iexact Hp10
    isplitl [Ha10]; · iexact Ha10
    isplitl [Hx10]; · iexact Hx10
    iexact HO
  iintro ⟨Hs10, HO⟩
  iapply (step_send0 m κ c 0 1 (S := (Finset.univ.erase (0, 0, 0)).erase (0, 1, 0)) (by decide)) $$ [Hp01 Ha01 Hx01 HO]
  · isplitr; · iexact HR
    isplitl [Hp01]; · iexact Hp01
    isplitl [Ha01]; · iexact Ha01
    isplitl [Hx01]; · iexact Hx01
    iexact HO
  iintro ⟨Hs01, HO⟩
  iapply (step_send0 m κ c 1 1 (S := ((Finset.univ.erase (0, 0, 0)).erase (0, 1, 0)).erase (0, 0, 1)) (by decide)) $$ [Hp11 Ha11 Hx11 HO]
  · isplitr; · iexact HR
    isplitl [Hp11]; · iexact Hp11
    isplitl [Ha11]; · iexact Ha11
    isplitl [Hx11]; · iexact Hx11
    iexact HO
  rw [rem4]
  iintro ⟨Hs11, HO⟩
  iapply Hk
  isplitl [Hsem]; · iexact Hsem
  isplitl [Hd1]; · iexact Hd1
  isplitl [Hd2]; · iexact Hd2
  isplitl [Hd3]; · iexact Hd3
  isplitl [Hs00 Hs01 Hs10 Hs11]
  · isplitl [Hs00 Hs01]
    · isplitl [Hs00]; · iexact Hs00
      iexact Hs01
    · isplitl [Hs10]; · iexact Hs10
      iexact Hs11
  unfold owp
  iexact HO

/-! ## The phases one by one -/

theorem phase_0 {Q : PUnit.{1} → sProp 𝕄} :
    iprop(recs m κ ∗ four (sent c) 0 ∗ ftok c 0 ∗ idle c 0 ∗ xs m c 0 ∗ four (pend c) 1 ∗ four (dst c) 1 ∗ (emp ∗ emp) ∗ owp c 0 0)
      ⊢ iprop(((four (done c) 0 ∗ (srcPts m c (0, 0, 0) ∗ srcPts m c (0, 1, 0)) ∗ (srcPts m c (0, 0, 1) ∗ srcPts m c (0, 1, 1)) ∗ four (extra c) 0 ∗ idle c 1 ∗ xs m c 0
            ∗ four (sent c) 1 ∗ owp c 1 0) -∗ WP c k Q)
        -∗ WP c (kFetch (geo c) 0 1 (kFetch (geo c) 1 1 (kFour (kRs0 (geo c)) k))) Q) := by
  rw [← show (owp' c 0 1 : sProp 𝕄) = owp c 1 0 from owp_next c 0 (by decide)]
  exact phase_rs m κ c 0 (by decide) (fun j d => kWait0 (geo c) (0, j, d)) (fun j d => .inl rfl) (fun _ => iprop(emp)) (fun j => srcPts m c (0, j, 0))
    (fun j => give_none j (pe 0 c) 1 0 (by decide) (by decide))
    (fun j => by
      iintro H
      isplitr
      · iapply (give_none j (pe 1 c) 1 1 (by decide) (by decide)); iempintro
      · iexact H)

theorem phase_1 {Q : PUnit.{1} → sProp 𝕄} :
    iprop(recs m κ ∗ four (sent c) 1 ∗ ftok c 1 ∗ idle c 1 ∗ xs m c 1 ∗ four (pend c) 2 ∗ four (dst c) 2 ∗ (emp ∗ emp) ∗ owp c 1 0)
      ⊢ iprop(((four (done c) 1 ∗ (emp ∗ emp) ∗ (srcPts m c (1, 0, 1) ∗ srcPts m c (1, 1, 1)) ∗ four (extra c) 1 ∗ idle c 2 ∗ xs m c 1
            ∗ four (sent c) 2 ∗ owp c 2 0) -∗ WP c k Q)
        -∗ WP c (kFetch (geo c) 0 2 (kFetch (geo c) 1 2 (kFour (kRs (geo c) 1) k))) Q) := by
  rw [← show (owp' c 1 1 : sProp 𝕄) = owp c 2 0 from owp_next c 1 (by decide)]
  exact phase_rs m κ c 1 (by decide) (fun j d => kWait (geo c) (1, j, d)) (fun j d => .inr rfl) (fun _ => iprop(emp)) (fun _ => iprop(emp))
    (fun j => give_none j (pe 0 c) 2 0 (by decide) (by decide))
    (fun j => by
      iintro H
      isplitl [H]
      · iapply (give_2 m c j); iexact H
      · iempintro)

theorem phase_2 {Q : PUnit.{1} → sProp 𝕄} :
    iprop(recs m κ ∗ four (sent c) 2 ∗ ftok c 2 ∗ idle c 2 ∗ xs m c 2 ∗ four (pend c) 3 ∗ four (dst c) 3 ∗ (srcPts m c (1, 0, 1) ∗ srcPts m c (1, 1, 1)) ∗ owp c 2 0)
      ⊢ iprop(((four (done c) 2 ∗ (emp ∗ emp) ∗ (srcPts m c (2, 0, 1) ∗ srcPts m c (2, 1, 1)) ∗ four (extra c) 2 ∗ idle c 3 ∗ xs m c 2
            ∗ four (sent c) 3 ∗ owp c 3 0) -∗ WP c k Q)
        -∗ WP c (kFetch (geo c) 0 3 (kFetch (geo c) 1 3 (kFour (kRs (geo c) 2) k))) Q) := by
  rw [← show (owp' c 2 1 : sProp 𝕄) = owp c 3 0 from owp_next c 2 (by decide)]
  exact phase_rs m κ c 2 (by decide) (fun j d => kWait (geo c) (2, j, d)) (fun j d => .inr rfl) (fun j => srcPts m c (1, j, 1)) (fun _ => iprop(emp))
    (fun j => give_3 m c j)
    (fun j => by
      iintro H
      isplitl [H]
      · iapply (give_3' m c j); iexact H
      · iempintro)

theorem phase_3 {Q : PUnit.{1} → sProp 𝕄} :
    iprop(recs m κ ∗ four (sent c) 3 ∗ four (pend c) 4 ∗ (extra c (2, 0, 1) ∗ extra c (2, 1, 1)) ∗ (srcPts m c (2, 0, 1) ∗ srcPts m c (2, 1, 1)) ∗ owp c 3 0)
      ⊢ iprop(((four (done c) 3 ∗ four (srcPts m c) 3 ∗ (extra c (3, 0, 1) ∗ extra c (3, 1, 1)) ∗ four (sent c) 4 ∗ owp c 4 0) -∗ WP c k Q)
        -∗ WP c (kFour (kAg (geo c) 3) k) Q) := by
  rw [← show (owp' c 3 1 : sProp 𝕄) = owp c 4 0 from owp_next c 3 (by decide), extra1 0 c 2 (.inl rfl), extra1 1 c 2 (.inl rfl)]
  exact phase_ag m κ c 3 (by decide) (by decide) (fun j => srcPts m c (2, j, 1)) (fun j => give_4 m c j)
    (fun j => give_none j (pe 1 c) 4 1 (by decide) (by decide)) (fun j => extra0 j c 3 (.inl rfl))

theorem owp_end : (owp' c 4 1 : sProp 𝕄) = owing c 0 := by
  unfold owp'
  rw [show rem (4 * (4 : Fin 6).val + 2 * (1 : Fin 2).val + 6) = ∅ from by ext t; rw [mem_rem]; revert t; decide, owedS_empty]

theorem phase_4 {Q : PUnit.{1} → sProp 𝕄} :
    iprop(recs m κ ∗ four (sent c) 4 ∗ four (pend c) 5 ∗ (extra c (3, 0, 1) ∗ extra c (3, 1, 1)) ∗ (emp ∗ emp) ∗ owp c 4 0)
      ⊢ iprop(((four (done c) 4 ∗ four (srcPts m c) 4 ∗ (extra c (4, 0, 1) ∗ extra c (4, 1, 1)) ∗ four (sent c) 5 ∗ owing c 0) -∗ WP c k Q)
        -∗ WP c (kFour (kAg (geo c) 4) k) Q) := by
  rw [← owp_end, extra1 0 c 3 (.inr rfl), extra1 1 c 3 (.inr rfl)]
  exact phase_ag m κ c 4 (by decide) (by decide) (fun _ => iprop(emp)) (fun j => give_none j (pe 0 c) 5 0 (by decide) (by decide))
    (fun j => give_none j (pe 1 c) 5 1 (by decide) (by decide)) (fun j => extra0 j c 4 (.inr rfl))

end Phase

/-! ## Whole buffers -/

section Whole
variable (c : Dev nD)

/-- A device's result buffer, of any contents, is what it hands its neighbours at the start. -/
theorem give_bar : (iprop(∃ f : Res F, oLoc c ↦{fullShare} f) : sProp 𝕄) ⊢ iprop(barPay (pe 1 c) 0 ∗ barPay (pe 0 c) 1) := by
  have h (d : Fin 2) (f : Res F) :
      (bigSep Finset.univ fun k : Fin 4 × Fin 2 => (reg c d k.1 k.2 f : sProp 𝕄)) ⊢ barPay (pe (1 - d) c) d := by
    have h1 : ∀ (c : Dev nD) (d : Fin 2), pe d (pe (1 - d) c) = c := by decide
    unfold barPay
    rw [bigSep_univ_equiv ((Equiv.ofBijective _ (sq_bij d (pe (1 - d) c))).prodCongr (Equiv.refl (Fin 2)))]
    refine bigSep_mono fun k _ => ?_
    show (reg c d (sq d (pe (1 - d) c) k.1) k.2 f : sProp 𝕄) ⊢ anyReg (pe d (pe (1 - d) c)) d (sq d (pe (1 - d) c) k.1) k.2
    rw [h1]
    unfold anyReg
    iintro H
    iexists f
    iexact H
  have h2 (f : Res F) : (oLoc c ↦{fullShare} f : sProp 𝕄)
      ⊢ iprop((bigSep Finset.univ fun k : Fin 4 × Fin 2 => reg c 0 k.1 k.2 f) ∗ bigSep Finset.univ fun k : Fin 4 × Fin 2 => reg c 1 k.1 k.2 f) := by
    rw [reg_all, bigSep_univ_prod, bigSep_fin_two]
    exact Entails.refl _
  iintro ⟨%f, H⟩
  ihave H := (h2 f) $$ H
  icases H with ⟨H0, H1⟩
  isplitl [H0]
  · iapply (h 0 f); iexact H0
  · iapply (h 1 f); iexact H1

/-- A device's argument is the sources of its first transfers and of its fetches. -/
theorem x_parts : (xLoc c ↦{fullShare} xb m c : sProp 𝕄) = iprop(four (srcPts m c) 0 ∗ xs m c 0 ∗ xs m c 1 ∗ xs m c 2) := by
  rw [x_all, bigSep_22, bigSep_univ_equiv (Equiv.prodComm (Fin 3) (Fin 2)), bigSep_univ_prod,
    bigSep_univ_eq_bigSepL [0, 1, 2] (by decide) (by decide)]
  simp only [bigSepL_cons_cons, bigSepL_singleton, bigSep_fin_two]
  rfl

theorem own_bij : ∀ c : Dev nD, Function.Bijective (fun k : Fin 4 × Fin 2 × Fin 2 => ((k.2.2, sq k.2.2 c k.1, k.2.1) : Fin 2 × Fin 4 × Fin 2)) := by decide +kernel

/-- The sources of the last three phases' transfers and the regions the last ones wrote are the result's buffer, finished. -/
theorem out_parts : (iprop(four (srcPts m c) 3 ∗ four (srcPts m c) 4 ∗ four (srcPts m c) 5 ∗ four (recvPts m c) 5) : sProp 𝕄)
    ⊢ (oLoc c ↦{fullShare} (outAt m : Res F)) := by
  rw [← out_all, bigSep_univ_equiv (Equiv.ofBijective _ (own_bij c)), bigSep_univ_prod,
    bigSep_univ_eq_bigSepL [3, 0, 1, 2] (by decide) (by decide)]
  simp only [bigSepL_cons_cons, bigSepL_singleton, bigSep_22]
  exact Entails.refl _

/-- A fetch cell after its last round closes. -/
theorem close_fetch (κ : Dev nD × CK → ℕ) (d : Fin 2) : iprop(recs m κ ∗ fIdle c d 3)
    ⊢ (iprop(|={Set.univ}=> (semVal (fetchCell c d) 0 ∗ ∃ f, fbuf c d f)) : sProp 𝕄) := by
  unfold fIdle
  iintro ⟨#HR, Hat, -, Hf⟩
  ihave #Hi := (inv_at m κ c (some (.inl d))) $$ HR
  imod (Rounds.cell_close ER (Rd m) (Set.mem_univ (κ (c, some (.inl d)))) (fun h => h) (R := 3) (duties_late m c (some (.inl d)) 3 le_rfl)) $$ [Hat] with Hz
  · isplitr; · iexact Hi
    iexact Hat
  imodintro
  isplitl [Hz]; · iexact Hz
  iexact Hf

end Whole

/-! ## The body -/

/-- What a device's body runs on, and what it leaves. -/
def bodyIn (c : Dev nD) : sProp 𝕄 :=
  iprop(barIn c ∗ bigSep Finset.univ (pend c) ∗ (ftok c 0 ∗ ftok c 1 ∗ ftok c 2) ∗ idle c 0 ∗ (xLoc c ↦{fullShare} xb m c)
    ∗ (∃ f : Res F, oLoc c ↦{fullShare} f) ∗ owing c (O₀ c))
def bodyOut (c : Dev nD) : sProp 𝕄 :=
  iprop(semVal (barCell c) 0 ∗ bigSep Finset.univ (done c) ∗ (semVal (fetchCell c 0) 0 ∗ ∃ f, fbuf c 0 f) ∗ (semVal (fetchCell c 1) 0 ∗ ∃ f, fbuf c 1 f)
    ∗ (xLoc c ↦{fullShare} xb m c) ∗ (oLoc c ↦{fullShare} (outAt m : Res F)) ∗ owing c 0)

/-- A device's body: every counter it used is zero again, the argument is as it was, the result's buffer holds the sums. -/
theorem body_runs (κ : Dev nD × CK → ℕ) (c : Dev nD) {Q : PUnit.{1} → sProp 𝕄} :
    iprop(recs m κ ∗ bodyIn m c) ⊢ iprop((bodyOut m c -∗ Q ⟨⟩) -∗ WP c (body (geo c)) Q) := by
  unfold bodyIn bodyOut
  rw [bigSep_T, bigSep_T, x_parts]
  iintro ⟨#HR, Hb, ⟨Hp0, Hp1, Hp2, Hp3, Hp4, Hp5⟩, ⟨Ht0, Ht1, Ht2⟩, Hi, ⟨Hx, Hx0, Hx1, Hx2⟩, Ho, HO⟩ Hk
  ihave Hg := (give_bar c) $$ Ho
  unfold body
  iapply (phase_start m κ c) $$ [Hb Hg Hp0 Hx HO]
  · isplitr; · iexact HR
    isplitl [Hb]; · iexact Hb
    isplitl [Hg]; · iexact Hg
    isplitl [Hp0]; · iexact Hp0
    isplitl [Hx]; · iexact Hx
    iexact HO
  iintro ⟨Hbar, Hd1, Hd2, Hd3, Hs, HO⟩
  iapply (phase_0 m κ c) $$ [Hs Ht0 Hi Hx0 Hp1 Hd1 HO]
  · isplitr; · iexact HR
    isplitl [Hs]; · iexact Hs
    isplitl [Ht0]; · iexact Ht0
    isplitl [Hi]; · iexact Hi
    isplitl [Hx0]; · iexact Hx0
    isplitl [Hp1]; · iexact Hp1
    isplitl [Hd1]; · iexact Hd1
    isplitr; · isplitr <;> iempintro
    iexact HO
  iintro ⟨Hn0, ⟨Ha00, Ha10⟩, ⟨Ha01, Ha11⟩, -, Hi, Hx0, Hs, HO⟩
  iapply (phase_1 m κ c) $$ [Hs Ht1 Hi Hx1 Hp2 Hd2 HO]
  · isplitr; · iexact HR
    isplitl [Hs]; · iexact Hs
    isplitl [Ht1]; · iexact Ht1
    isplitl [Hi]; · iexact Hi
    isplitl [Hx1]; · iexact Hx1
    isplitl [Hp2]; · iexact Hp2
    isplitl [Hd2]; · iexact Hd2
    isplitr; · isplitr <;> iempintro
    iexact HO
  iintro ⟨Hn1, -, Hc1, -, Hi, Hx1, Hs, HO⟩
  iapply (phase_2 m κ c) $$ [Hs Ht2 Hi Hx2 Hp3 Hd3 Hc1 HO]
  · isplitr; · iexact HR
    isplitl [Hs]; · iexact Hs
    isplitl [Ht2]; · iexact Ht2
    isplitl [Hi]; · iexact Hi
    isplitl [Hx2]; · iexact Hx2
    isplitl [Hp3]; · iexact Hp3
    isplitl [Hd3]; · iexact Hd3
    isplitl [Hc1]; · iexact Hc1
    iexact HO
  iintro ⟨Hn2, -, Hc2, He, Hi, Hx2, Hs, HO⟩
  ihave He := (Entails.of_eq (four_eq (extra c) 2)) $$ He
  icases He with ⟨⟨-, He0⟩, ⟨-, He1⟩⟩
  iapply (phase_3 m κ c) $$ [Hs Hp4 He0 He1 Hc2 HO]
  · isplitr; · iexact HR
    isplitl [Hs]; · iexact Hs
    isplitl [Hp4]; · iexact Hp4
    isplitl [He0 He1]
    · isplitl [He0]; · iexact He0
      iexact He1
    isplitl [Hc2]; · iexact Hc2
    iexact HO
  iintro ⟨Hn3, Hy3, He, Hs, HO⟩
  iapply (phase_4 m κ c) $$ [Hs Hp5 He HO]
  · isplitr; · iexact HR
    isplitl [Hs]; · iexact Hs
    isplitl [Hp5]; · iexact Hp5
    isplitl [He]; · iexact He
    isplitr; · isplitr <;> iempintro
    iexact HO
  iintro ⟨Hn4, Hy4, -, Hs, HO⟩
  iapply (phase_last m κ c) $$ [Hs HO]
  · isplitr; · iexact HR
    isplitl [Hs]; · iexact Hs
    iexact HO
  iintro ⟨Hn5, Hy5, Hv5, HO⟩
  ihave Hout := (out_parts m c) $$ [Hy3 Hy4 Hy5 Hv5]
  · isplitl [Hy3]; · iexact Hy3
    isplitl [Hy4]; · iexact Hy4
    isplitl [Hy5]; · iexact Hy5
    iexact Hv5
  unfold idle
  icases Hi with ⟨Hi0, Hi1⟩
  imod (close_fetch m c κ 0) $$ [Hi0] with Hf0
  · isplitr; · iexact HR
    iexact Hi0
  imod (close_fetch m c κ 1) $$ [Hi1] with Hf1
  · isplitr; · iexact HR
    iexact Hi1
  rw [wp_ret]
  imodintro
  iapply Hk
  isplitl [Hbar]; · iexact Hbar
  isplitl [Hn0 Hn1 Hn2 Hn3 Hn4 Hn5]
  · isplitl [Hn0]; · iexact Hn0
    isplitl [Hn1]; · iexact Hn1
    isplitl [Hn2]; · iexact Hn2
    isplitl [Hn3]; · iexact Hn3
    isplitl [Hn4]; · iexact Hn4
    iexact Hn5
  isplitl [Hf0]; · iexact Hf0
  isplitl [Hf1]; · iexact Hf1
  isplitl [Ha00 Ha01 Ha10 Ha11 Hx0 Hx1 Hx2]
  · isplitl [Ha00 Ha01 Ha10 Ha11]
    · iapply (Entails.of_eq (four_eq (srcPts m c) 0).symm)
      isplitl [Ha00 Ha01]
      · isplitl [Ha00]; · iexact Ha00
        iexact Ha01
      · isplitl [Ha10]; · iexact Ha10
        iexact Ha11
    isplitl [Hx0]; · iexact Hx0
    isplitl [Hx1]; · iexact Hx1
    iexact Hx2
  isplitl [Hout]; · iexact Hout
  iexact HO

end Cert.KernelIdeal.AllReduce
-- ==== Proof.KernelIdealDeal.lean ====
/-
# Dealing the launch's tokens

Every cell's duty tokens, dealt to the devices that pay the duties; every cell's invariant, under one name each; and
the credit each device starts with for its barrier cell and its receive cells.
-/
module

public import proofs.«01_k».proof.Proof.KernelIdealBody

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem kcell_inj {c c' : Dev nD} {k k' : CK} (h : kcell c k = kcell c' k') : c = c' ∧ k = k' :=
  ⟨congrArg (fun g : GSem nD τ sig => g.1.1) h, csem_inj (congrArg Prod.snd h)⟩
def cells : Finset (GSem nD τ sig) :=
  Finset.univ.map ⟨fun ck : Dev nD × CK => kcell ck.1 ck.2, fun _ _ h => Prod.ext (kcell_inj h).1 (kcell_inj h).2⟩

/-- A device's tokens: its barrier's two, its fetches', its sends', its receives'. -/
abbrev TK : Type := (Bool ⊕ (Fin 2 × Fin 3)) ⊕ (T ⊕ T)
def tkCell : TK → CK
  | .inl (.inl _) => none
  | .inl (.inr x) => some (.inl x.1)
  | .inr (.inl t) => some (.inr (.inl t))
  | .inr (.inr t) => some (.inr (.inr t))
def tkRound : TK → ℕ
  | .inl (.inr x) => x.2.val
  | _ => 0
def tkName : TK → Bool
  | .inl (.inl b) => b
  | _ => false
theorem tk_inj {k k' : TK} (h : tkCell k = tkCell k') (hr : tkRound k = tkRound k') (hb : tkName k = tkName k') : k = k' := by
  rcases k with (b | ⟨d, r⟩) | (t | t) <;> rcases k' with (b' | ⟨d', r'⟩) | (t' | t') <;> cases h
  · cases (show b = b' from hb); rfl
  · cases (show r = r' from Fin.ext hr); rfl
  · rfl
  · rfl

def tokens : Finset (GSem nD τ sig × ℕ × Bool) :=
  Finset.univ.map ⟨fun ck : Dev nD × TK => (kcell ck.1 (tkCell ck.2), tkRound ck.2, tkName ck.2), fun x y h => by
    have h1 := kcell_inj (congrArg Prod.fst h)
    exact Prod.ext h1.1 (tk_inj h1.2 (congrArg (fun z => z.2.1) h) (congrArg (fun z => z.2.2) h))⟩

def u₀ : UU :=
  (initOf (Pipeline.cells cfgs cellOf_inj) (Pipeline.launchToks cfgs cellOf_inj), initOf cells tokens)

/-- The tokens of device `c`'s own cells. -/
def toks (c : Dev nD) : sProp 𝕄 := bigSep Finset.univ fun k : TK => dutyTok ER (kcell c (tkCell k)) (tkRound k) (tkName k)
/-- The tokens of the duties it pays. -/
def payToks (c : Dev nD) : sProp 𝕄 :=
  iprop(((dutyTok ER (barCell (pe 1 c)) 0 false ∗ dutyTok ER (barCell (pe 0 c)) 0 true) ∗ (ftok c 0 ∗ ftok c 1 ∗ ftok c 2))
    ∗ ((bigSep Finset.univ fun t : T => dutyTok ER (sendCell c t) 0 false) ∗ (bigSep Finset.univ fun t : T => dutyTok ER (recvCell (pe t.2.2 c) t) 0 false)))
/-- Its cells' positions at the start. -/
def poss (c : Dev nD) : sProp 𝕄 := bigSep Finset.univ fun k : CK => atPos ER (kcell c k) 0 ∅ 0

theorem bigSep_CK (Φ : CK → sProp 𝕄) : bigSep Finset.univ Φ
    = iprop(Φ none ∗ (Φ (some (.inl 0)) ∗ Φ (some (.inl 1)))
        ∗ (bigSep Finset.univ fun t : T => Φ (some (.inr (.inl t)))) ∗ (bigSep Finset.univ fun t : T => Φ (some (.inr (.inr t))))) := by
  rw [bigSep_univ_equiv (((Equiv.sumComm PUnit.{1} K).trans (Equiv.optionEquivSumPUnit.{0} K).symm)), bigSep_univ_sum, bigSep_univ_sum, bigSep_univ_sum,
    bigSep_univ_of_subsingleton PUnit.unit, bigSep_fin_two]
  rfl

theorem toks_eq (c : Dev nD) : (toks c : sProp 𝕄)
    = iprop(((dutyTok ER (barCell c) 0 false ∗ dutyTok ER (barCell c) 0 true) ∗ (ftok c 0 ∗ ftok c 1 ∗ ftok c 2))
        ∗ ((bigSep Finset.univ fun t : T => dutyTok ER (sendCell c t) 0 false) ∗ (bigSep Finset.univ fun t : T => dutyTok ER (recvCell c t) 0 false))) := by
  unfold toks
  rw [bigSep_univ_sum, bigSep_univ_sum, bigSep_univ_sum, bigSep_univ_eq_bigSepL [false, true] (by decide) (by decide),
    bigSep_univ_equiv (Equiv.prodComm (Fin 3) (Fin 2)), bigSep_univ_prod, bigSep_univ_eq_bigSepL [0, 1, 2] (by decide) (by decide)]
  simp only [bigSepL_cons_cons, bigSepL_singleton, bigSep_fin_two]
  rfl

def turn (d : Fin 2) : Dev nD ≃ Dev nD := ⟨pe d, pe (1 - d), fun c => pe_pe d c, fun c => pe_pe' d c⟩
def turnT : Dev nD × T ≃ Dev nD × T :=
  ⟨fun x => (pe x.2.2.2 x.1, x.2), fun x => (pe (1 - x.2.2.2) x.1, x.2), fun x => Prod.ext (pe_pe _ _) rfl, fun x => Prod.ext (pe_pe' _ _) rfl⟩

/-- The tokens dealt to the devices that pay the duties. -/
theorem toks_around : (bigSep Finset.univ fun c : Dev nD => (toks c : sProp 𝕄)) ⊢ bigSep Finset.univ fun c : Dev nD => payToks c := by
  have hT : (bigSep Finset.univ fun c : Dev nD => bigSep Finset.univ fun t : T => (dutyTok ER (recvCell c t) 0 false : sProp 𝕄))
      = bigSep Finset.univ fun c : Dev nD => bigSep Finset.univ fun t : T => dutyTok ER (recvCell (pe t.2.2 c) t) 0 false := by
    rw [← bigSep_univ_prod fun x : Dev nD × T => (dutyTok ER (recvCell x.1 x.2) 0 false : sProp 𝕄), bigSep_univ_equiv turnT, bigSep_univ_prod]
    rfl
  simp only [toks_eq]
  unfold payToks
  simp only [bigSep_sep']
  rw [hT, bigSep_univ_equiv (turn 1) (fun c : Dev nD => (dutyTok ER (barCell c) 0 false : sProp 𝕄)),
    bigSep_univ_equiv (turn 0) (fun c : Dev nD => (dutyTok ER (barCell c) 0 true : sProp 𝕄))]
  exact Entails.refl _

/-! ## From the launch element to the invariants -/

/-- What the launch element deals device `c`. -/
def G (c : Dev nD) : sProp 𝕄 :=
  iprop((bigSep Finset.univ fun k : CK => roundState ER (Rd m) (kcell c k) 0)
    ∗ (bigSep Finset.univ fun k : CK => iprop(atPos ER (kcell c k) 0 ∅ 0 ∗ reached ER (kcell c k) 0)) ∗ toks c)

/-- The invariants under their names, round 0 of every cell reached. -/
def records (κ : Dev nD × CK → ℕ) : sProp 𝕄 :=
  iprop((bigSep Finset.univ fun ck : Dev nD × CK => cellInv ER (Rd m) (κ ck) (kcell ck.1 ck.2))
    ∗ (bigSep Finset.univ fun ck : Dev nD × CK => reached ER (kcell ck.1 ck.2) 0))

instance records_persistent (κ : Dev nD × CK → ℕ) : BI.Persistent (records (F := F) m κ) := by unfold records; infer_instance

/-- What the allocation makes of it. -/
def G' (c : Dev nD) : sProp 𝕄 := iprop(∃ κ, records m κ ∗ poss c ∗ payToks c)

theorem fund_all : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : CK => Φ (kcell c k) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]; rfl
  iintro HX
  imod (Rounds.fund ER (Rd m) cells tokens) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the fetches', the sends' and the receives'. -/
theorem ownSems0_eq (c : Dev nD) : (Pipeline.ownSems0 (Ix := Unit) (Name := ℕ) (U := UU) (Lvl := ℕ) (Val := Elt F) (τ := τ) osem c : sProp 𝕄)
    = iprop((semVal (fetchCell c 0) 0 ∗ semVal (fetchCell c 1) 0)
        ∗ (bigSep Finset.univ fun t : T => semVal (sendCell c t) 0) ∗ (bigSep Finset.univ fun t : T => semVal (recvCell c t) 0)) := by
  unfold Pipeline.ownSems0
  rw [bigSep_univ_sum, bigSep_univ_sum, bigSep_fin_two]
  rfl
/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell c k) 0 : sProp 𝕄) := by
  rw [ownSems0_eq, unscopedSems0_eq, bigSep_CK]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell c k)))
          ∗ (bigSep Finset.univ fun k : CK => iprop(atPos ER (kcell c k) 0 ∅ 0 ∗ reached ER (kcell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell c k) 0) ∗ bigSep Finset.univ fun k : CK => roundState ER (Rd m) (kcell c k) 0)
      ⊢ (|={Set.univ}=> bigSep Finset.univ fun k : CK => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- Facts that persist go to every member of a family. -/
theorem bigSep_give {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell c k)))
          ∗ (bigSep Finset.univ fun k : CK => iprop(atPos ER (kcell c k) 0 ∅ 0 ∗ reached ER (kcell c k) 0)) ∗ toks c) : sProp 𝕄)
      ⊢ bigSep Finset.univ (G' m) := by
  classical
  rw [bigSep_sep', bigSep_sep', ← bigSep_univ_prod (fun ck : Dev nD × CK => iprop(∃ κ : ℕ, cellInv ER (Rd m) κ (kcell ck.1 ck.2))),
    bigSep_congr (s := Finset.univ) (fun (c : Dev nD) _ => bigSep_sep' Finset.univ (fun k : CK => (atPos ER (kcell c k) 0 ∅ 0 : sProp 𝕄)) (fun k => reached ER (kcell c k) 0)),
    bigSep_sep', ← bigSep_univ_prod (fun ck : Dev nD × CK => (reached ER (kcell ck.1 ck.2) 0 : sProp 𝕄))]
  iintro ⟨HI, ⟨Hat, #HR⟩, Htok⟩
  ihave HK := (BI.bigSep_exists_pi Finset.univ (fun (ck : Dev nD × CK) (κ : ℕ) => (cellInv ER (Rd m) κ (kcell ck.1 ck.2) : sProp 𝕄))) $$ HI
  icases HK with ⟨%κ, #HI⟩
  ihave Htk := (toks_around (F := F)) $$ Htok
  iapply (bigSep_give (R := records m κ) (Φ := fun c => iprop(poss c ∗ payToks c)) fun c _ => show iprop(records m κ ∗ (poss c ∗ payToks c)) ⊢ G' m c from by
    unfold G'
    iintro H
    iexists κ
    iexact H)
  isplitr
  · unfold records; isplitl; · iexact HI
    iexact HR
  · rw [bigSep_sep']
    isplitl [Hat]; · unfold poss; iexact Hat
    iexact Htk

/-- The allocation for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem tally_cell (c c' : Dev nD) (k k' : CK) (n : ℕ) :
    (tallyAt (kcell c k) () n : CellTallies nD τ sig Unit) (kcell c' k') () = if c = c' ∧ k = k' then n else 0 := by
  rw [tallyAt_apply]
  refine if_congr ⟨fun h => ?_, fun h => ?_⟩ rfl rfl
  · have := kcell_inj h.1
    exact ⟨this.1.symm, this.2.symm⟩
  · rw [h.1, h.2]; exact ⟨rfl, rfl⟩

theorem owed_recv (d c : Dev nD) (t : T) : O₀ d (recvCell c t) () = if pe t.2.2 d = c then N else 0 := by
  unfold O₀ O₁ owedS
  rw [Pi.add_apply, Finsupp.add_apply, Pi.add_apply, Finsupp.add_apply, tally_cell, tally_cell, if_neg (fun h => nomatch h.2), if_neg (fun h => nomatch h.2),
    Finset.sum_apply, Finsupp.finset_sum_apply, Finset.sum_congr rfl fun u _ => tally_cell (pe u.2.2 d) c (some (.inr (.inr u))) (some (.inr (.inr t))) N,
    Finset.sum_eq_single t (fun u _ hu => if_neg fun h => hu (by cases h.2; rfl)) (fun h => absurd (Finset.mem_univ _) h), Nat.add_zero]
  exact if_congr (and_iff_left rfl) rfl rfl

theorem owed_bar (d c : Dev nD) : O₀ d (barCell c) () = (if pe 0 d = c then 1 else 0) + (if pe 1 d = c then 1 else 0) := by
  unfold O₀ O₁ owedS
  rw [Pi.add_apply, Finsupp.add_apply, Pi.add_apply, Finsupp.add_apply, tally_cell, tally_cell,
    Finset.sum_apply, Finsupp.finset_sum_apply, Finset.sum_congr rfl fun u _ => tally_cell (pe u.2.2 d) c (some (.inr (.inr u))) none N,
    Finset.sum_eq_zero fun u _ => if_neg fun h => (nomatch h.2), Nat.zero_add]
  congr 1
  · exact if_congr (and_iff_left rfl) rfl rfl
  · exact if_congr (and_iff_left rfl) rfl rfl

theorem sum_turn (e : Fin 2) (c : Dev nD) (n : ℕ) : ∑ d : Dev nD, (if pe e d = c then n else 0) = n := by
  rw [Finset.sum_eq_single (pe (1 - e) c) (fun d _ hd => if_neg fun h => hd (by rw [← h, pe_pe])) (fun h => absurd (Finset.mem_univ _) h), if_pos (pe_pe' e c)]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, sum_turn, sum_turn]

theorem launch_recv (c : Dev nD) (t : T) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t, sum_turn]

/-- A device's credit: two units for its barrier cell, a transfer's for each receive cell. -/
theorem creds (c : Dev nD) :
    (Pipeline.launchCred O₀ c : sProp 𝕄) ⊢ iprop(cred (tallyAt (barCell c) () 2) ∗ bigSep Finset.univ fun t : T => cred (tallyAt (recvCell c t) () N)) := by
  classical
  unfold Pipeline.launchCred
  let e : Unit ⊕ T ↪ SemLoc sig := ⟨fun x => match x with | .inl _ => csem none | .inr t => csem (some (.inr (.inr t))), fun x y h => by
    rcases x with x | x <;> rcases y with y | y
    · rfl
    · exact nomatch csem_inj h
    · exact nomatch csem_inj h
    · cases csem_inj h; rfl⟩
  refine (bigSep_subset (Finset.subset_univ (Finset.univ.map e))).trans ?_
  rw [bigSep_map, bigSep_univ_sum, bigSep_univ_of_subsingleton (), ← launch_bar, bigSep_congr fun t _ => congrArg cred (launch_recv c t).symm]
  exact Entails.refl _

end Cert.KernelIdeal.AllReduce
-- ==== Proof.KernelIdealLaunch.lean ====
/-
# The run

The launch of the kernel on four devices: every execution ends, with every device's result the finished sums, its
argument as it was and every semaphore counter at zero.
-/
module

public import proofs.«01_k».proof.Proof.KernelIdealDeal
public import Idealize.ShloMosaic.Lib.Pipeline.CollectiveSegs

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and leaves, as the launch states it -/

/-- What device `c` starts from, besides its buffers in fast memory. -/
def start (c : Dev nD) : sProp 𝕄 :=
  iprop((∃ κ, recs m κ ∗ poss c ∗ payToks c) ∗ (cred (tallyAt (barCell c) () 2) ∗ bigSep Finset.univ fun t : T => cred (tallyAt (recvCell c t) () N))
    ∗ (xLoc c ↦{fullShare} xb m c))
def Φ₀ (c : Dev nD) : sProp 𝕄 := iprop(start m c ∗ (∃ f, fbuf c 0 f) ∗ (∃ f, fbuf c 1 f))
/-- What it leaves, besides its result. -/
def Φ₁ (c : Dev nD) : sProp 𝕄 :=
  iprop(semVal (barCell c) 0 ∗ bigSep Finset.univ (done c) ∗ (semVal (fetchCell c 0) 0 ∗ ∃ f, fbuf c 0 f) ∗ (semVal (fetchCell c 1) 0 ∗ ∃ f, fbuf c 1 f)
    ∗ (xLoc c ↦{fullShare} xb m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (outAt m : Res F)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = Φ (0 : Fin 1) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (X : Res F) : sProp 𝕄 :=
  iprop(∃ f : Buf (Elt F) (oLoc c), ⌜f = X⌝ ∗ (oLoc c ↦{fullShare} f))

/-- The tokens and positions dealt to a device make what its body runs on. -/
theorem bodyIn_intro (κ : Dev nD × CK → ℕ) (c : Dev nD) :
    iprop(recs m κ ∗ poss c ∗ payToks c ∗ (cred (tallyAt (barCell c) () 2) ∗ bigSep Finset.univ fun t : T => cred (tallyAt (recvCell c t) () N))
        ∗ (xLoc c ↦{fullShare} xb m c) ∗ ((∃ f, fbuf c 0 f) ∗ (∃ f, fbuf c 1 f)) ∗ (∃ f : Res F, oLoc c ↦{fullShare} f) ∗ owing c (O₀ c))
      ⊢ bodyIn m c := by
  unfold poss payToks bodyIn barIn idle fIdle pend tail
  rw [bigSep_CK]
  simp only [bigSep_sep']
  iintro ⟨#HR, ⟨Hab, ⟨Ha0, Ha1⟩, Has, Hav⟩, ⟨⟨⟨Hb1, Hb0⟩, Hft⟩, Hts, Htv⟩, ⟨Hcb, Hcv⟩, Hx, ⟨Hf0, Hf1⟩, Ho, HO⟩
  ihave #Hr0 := (reached_at m κ c (some (.inl 0))) $$ HR
  ihave #Hr1 := (reached_at m κ c (some (.inl 1))) $$ HR
  isplitl [Hb1 Hb0 Hab Hcb]
  · isplitl [Hb1]; · iexact Hb1
    isplitl [Hb0]; · iexact Hb0
    isplitl [Hab]; · iexact Hab
    iexact Hcb
  isplitl [Has Hav Hts Htv Hcv]
  · isplitl [Hts]; · iexact Hts
    isplitl [Htv]; · iexact Htv
    isplitl [Has]; · iexact Has
    isplitl [Hav]; · iexact Hav
    iexact Hcv
  isplitl [Hft]; · iexact Hft
  isplitl [Ha0 Ha1 Hf0 Hf1]
  · isplitl [Ha0 Hf0]
    · isplitl [Ha0]; · iexact Ha0
      isplitr; · iexact Hr0
      iexact Hf0
    · isplitl [Ha1]; · iexact Ha1
      isplitr; · iexact Hr1
      iexact Hf1
  isplitl [Hx]; · iexact Hx
  isplitl [Ho]; · iexact Ho
  iexact HO

def bodyPre (c : Dev nD) : sProp 𝕄 :=
  iprop(Φ₀ m c ∗ (dats m ρ 0 c).owesAt () t0_0.castSucc ∗ (∃ d, stg c ((dats m ρ 0 c).before (0 : Fin 1) t0_0 d)))
def bodyPost (c : Dev nD) : sProp 𝕄 :=
  iprop(Φ₁ m c ∗ (dats m ρ 0 c).owesAt () t0_0.succ ∗ stg c (outAt m))

/-- The body as the launch states it. -/
theorem sound_body (c : Dev nD) :
    bodyPre m ρ c ⊢ wp frame (wpE (defs₀ (F := F)) 𝒱₀ (c : Thread nD τ) none) Set.univ
      (cc0_body (F := F) xM (Memref.isWhole_whole _) oM (Memref.isWhole_whole _) (fM 0) (Memref.isWhole_whole _) (fM 1) (Memref.isWhole_whole _)
        cc0_scratch2 cc0_scratch3 cc0_scratch4 cc0_scratch5 cc0_scratch6) (fun _ => bodyPost m ρ c) := by
  rw [cc0_body_eq]
  simp only [wp_deviceId]
  rw [gen_eq]
  unfold bodyPre Φ₀ start Dat.owesAt Pipeline.owesWithin
  rw [show (dats m ρ 0 c).owed t0_0.castSucc = O₀ c from rfl]
  iintro ⟨⟨⟨⟨%κ, #HR, Hpos, Htok⟩, Hcr, Hx⟩, Hf⟩, ⟨%W, %hW, HO⟩, ⟨%d, %g, %hg, Ho⟩⟩
  ihave Hin := (bodyIn_intro m κ c) $$ [Hpos Htok Hcr Hx Hf HO Ho]
  · isplitr; · iexact HR
    isplitl [Hpos]; · iexact Hpos
    isplitl [Htok]; · iexact Htok
    isplitl [Hcr]; · iexact Hcr
    isplitl [Hx]; · iexact Hx
    isplitl [Hf]; · iexact Hf
    isplitl [Ho]; · iexists g; iexact Ho
    unfold owing
    iexists W
    iexact HO
  iapply (body_runs m κ c) $$ [Hin]
  · isplitr; · iexact HR
    iexact Hin
  unfold bodyOut bodyPost Φ₁ owing Dat.owesAt Pipeline.owesWithin
  rw [show (dats m ρ 0 c).owed t0_0.succ = 0 from rfl]
  iintro ⟨Hb, Hd, Hf0, Hf1, Hx, Ho, %W', HO⟩
  isplitl [Hb Hd Hf0 Hf1 Hx]
  · isplitl [Hb]; · iexact Hb
    isplitl [Hd]; · iexact Hd
    isplitl [Hf0]; · iexact Hf0
    isplitl [Hf1]; · iexact Hf1
    iexact Hx
  isplitl [HO]
  · iexists W'
    isplitr; · ipureintro; exact fun _ _ => Or.inl trivial
    iexact HO
  iexists _
  isplitr; · (ipureintro; rfl)
  iexact Ho

set_option maxRecDepth 20000 in
theorem body_obligation (c : Dev nD) : BodyObligation (dats (F := F) m ρ 0 c) (defs₀ (F := F)) 𝒱₀ () Set.univ := fun t => by
  rw [fin_N0 t, bigSep_W, bigSep_W]
  simp only [owns_whole_eq]
  exact sound_body m ρ c

/-! ## The side conditions of the launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, #Hlev, Hcr, -, HG⟩
  ihave Hc := (creds (F := F) c) $$ Hcr
  unfold start G' records recs
  icases HG with ⟨%κ, ⟨HI, HR⟩, HG⟩
  imodintro
  isplitl
  · isplitl [HI HR HG]
    · iexists κ
      isplitl [HI HR]
      · isplitl [HI]; · iexact HI
        isplitl [HR]; · iexact HR
        iexact Hlev
      iexact HG
    isplitl [Hc]; · iexact Hc
    iexact Hx
  · iempintro

theorem fbuf_eq0 (c : Dev nD) (f : Buf (Elt F) (fLoc 0 c)) : (fbuf c 0 f : sProp 𝕄) = (((c : Thread nD τ).loc cc0_scratch0) ↦{fullShare} f) := by
  unfold fbuf
  rw [show (fM 0).view.set = Finset.univ from View.set_whole _]
theorem fbuf_eq1 (c : Dev nD) (f : Buf (Elt F) (fLoc 1 c)) : (fbuf c 1 f : sProp 𝕄) = (((c : Thread nD τ).loc cc0_scratch1) ↦{fullShare} f) := by
  unfold fbuf
  rw [show (fM 1).view.set = Finset.univ from View.set_whole _]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, H0⟩, ⟨%g, H1⟩⟩
  isplitl [Hs]; · iexact Hs
  isplitl [H0]
  · iexists f; rw [fbuf_eq0]; iexact H0
  · iexists g; rw [fbuf_eq1]; iexact H1

theorem phi1_exit (c : Dev nD) :
    (dats m ρ 0 c).Φ (Fin.last cfg0.N) ⊢ iprop((unscopedSems0 c ∗ (xLoc c ↦{fullShare} xb m c)) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ done
  rw [bigSep_sep']
  iintro ⟨Hb, ⟨Hs, Hv⟩, ⟨Hz0, %f, H0⟩, ⟨Hz1, %g, H1⟩, Hx⟩
  isplitl [Hb Hx]
  · isplitl [Hb]; · iexact Hb
    iexact Hx
  isplitl [Hs Hv Hz0 Hz1]
  · isplitl [Hz0 Hz1]
    · isplitl [Hz0]; · iexact Hz0
      iexact Hz1
    isplitl [Hs]; · iexact Hs
    iexact Hv
  isplitl [H0]
  · iexists f; rw [← fbuf_eq0]; iexact H0
  · iexists g; rw [← fbuf_eq1]; iexact H1

theorem stage_bottom : ∀ k : CK, csem k ≠ .dma ((cfg0.win (0 : Fin 1)).sem 0) := by decide +kernel

theorem lv_stage (c : Dev nD) (w : Fin cfg0.W) (s : Fin (cfg0.win w).nbuf) : lv ((c : Thread nD τ), .dma ((cfg0.win w).sem s)) () = 0 := by
  have hw : w = (0 : Fin 1) := Subsingleton.elim (α := Fin 1) w 0
  subst hw
  have hs : s = (0 : Fin 1) := Subsingleton.elim (α := Fin 1) s 0
  subst hs
  show (match dec (.dma ((cfg0.win (0 : Fin 1)).sem 0)) with | some k => lvk k | none => 0) = 0
  cases h : dec (.dma ((cfg0.win (0 : Fin 1)).sem 0)) with
  | none => rfl
  | some k => exact absurd (dec_some h) (stage_bottom k)

theorem waits (c : Dev nD) : (levAts L lv : sProp 𝕄) ⊢ Pipeline.cellsWaits cfgs (dats m ρ) () 0 c :=
  Pipeline.cellsWaits_intro cfgs (dats m ρ) () 0 c fun w s t =>
    mayWait_bottom c _ (lv_stage c w s) _ (by
      rcases t with ⟨_ | _, ht⟩
      · exact Or.inl rfl
      · exact Or.inr rfl)

/-! ## The run -/

/-- The result array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ r.2.mem (xLoc c) = m (xLoc c)

/-- At a device's exit its argument and its barrier counter are read off the final state. -/
theorem exit_read (c : Dev nD) (s' : Phys nD τ sig (Elt F)) :
    iprop((unscopedSems0 c ∗ (xLoc c ↦{fullShare} xb m c)) ∗ emp ∗ SI s')
      ⊢ |={Set.univ}=> iprop(⌜(∀ sm : SemLoc sig, sm.isScoped .tc = false → s'.mem.sem ((c.tc : Thread nD τ), sm) = 0) ∧ s'.mem.mem (xLoc c) = m (xLoc c)⌝ ∗ (SI s' : sProp 𝕄)) := by
  have hr : iprop((xLoc c ↦{fullShare} xb m c) ∗ SI s') ⊢ (iprop(⌜s'.mem.mem (xLoc c) = m (xLoc c)⌝ ∗ SI s') : sProp 𝕄) := by
    have h := pointsTo_read_all (Ix := Unit) (Name := ℕ) (U := UU) (Lvl := ℕ) (Finset.univ : Finset Unit) (fun _ => xLoc c) (fun _ => xb m c) s'
    rw [bigSep_univ_of_subsingleton ()] at h
    refine h.trans ?_
    iintro ⟨%h, H⟩
    isplitr; · ipureintro; exact h () (Finset.mem_univ _)
    iexact H
  iintro ⟨⟨Hu, Hx⟩, -, HSI⟩
  ihave H := hr $$ [Hx HSI]
  · isplitl [Hx] <;> iassumption
  icases H with ⟨%hx, HSI⟩
  imod (Pipeline.unscopedSems0_read (X := unscopedSems0 c) (c := c) fupd_intro s') $$ [Hu HSI] with ⟨%hu, HSI⟩
  · isplitl [Hu] <;> iassumption
  imodintro
  isplitr; · ipureintro; exact ⟨hu, hx⟩
  iexact HSI

set_option maxRecDepth 8000 in
/-- From any memory with zero counters, every fair execution of the program on the four devices ends, and at its end
    every device's result array is at the computed contents, its argument as it was, every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ (xLoc c ↦{fullShare} xb m c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem (xLoc c) = m (xLoc c))
    (hY := exit_read m)
    (hQ := fun _ h hs => ⟨fun c => ⟨(h c).1, (h c).2.2.2⟩, sem_eq_zero hs fun c => (h c).2.2.1⟩)

end Cert.KernelIdeal.AllReduce
-- ==== Proof.KernelIdealValue.lean ====
/-
# The values

The result array every device ends with is the kernel's finished sums, and at extended reals those sums are the
reference's: a sum over the four devices' arguments does not depend on the order in which a chunk meets them.
-/
module

public import proofs.«01_k».proof.Proof.KernelIdealLaunch
public import proofs.«01_k».proof.Proof.Gen.ReferenceIdeal.Run
public import Idealize.ShloMosaic.Lib.Pipeline.Value
public import Idealize.ShloMosaic.Lib.IdealHost
public import Idealize.ShloMosaic.Lib.Layout

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Window)

/-! ## The result array -/

section Final

variable {F : FTy → Type} [FloatOps F] (m : (ℓ : Loc nD τ sig) → Buf (Elt F) ℓ) (ρ : Dev nD → PrngReg)

/-- The one block written back is the whole array, element for element. -/
theorem blk_emb (y : (S4096x2048 : Shape).Idx) : (win0_0.blk t0_0).view.emb y = y := by
  funext a
  refine Fin.ext ?_
  show (win0_0.rect t0_0).emb y a = (y a).val
  exact Window.rect_emb_val_of_index_zero win0_0 t0_0 a rfl y

theorem finalA_eq (c : Dev nD) : finalA m ρ c (0 : Fin 1) = (outAt m : Res F) := by
  refine (dats m ρ 0 c).arrAt_eq_of_cover (0 : Fin 1) (outAt m : Res F) (fun t _ => ?_) (fun i => ?_)
  · obtain rfl := fin_N0 t
    funext y
    exact congrArg (outAt m) (blk_emb y).symm
  · refine ⟨t0_0, by decide +kernel, ?_⟩
    exact Finset.mem_map.mpr ⟨i, Finset.mem_univ _, blk_emb i⟩

end Final

/-! ## The sums -/

variable (m : (ℓ : Loc nD τ sig) → Buf (Elt Ideal) ℓ)

/-- An element of a device's argument, as an extended real. -/
def XE (c : Dev nD) (i : (S4096x2048 : Shape).Idx) : EReal := X m c i

/-- A chunk meets each device once. -/
theorem bk_bijective : ∀ (d : Fin 2) (q : Fin 4), Function.Bijective fun n : Fin 4 => bk d q n.val := by decide +kernel
theorem bk_zero : ∀ (d : Fin 2) (q : Fin 4), bk d q 0 = q := by decide +kernel

/-- The finished sum of a chunk, in whatever order, is the sum over the devices. -/
theorem acc_sum (d : Fin 2) (q : Fin 4) (i : (S4096x2048 : Shape).Idx) :
    (acc m d q 3 i : EReal) = ∑ c : Dev nD, XE m c i := by
  rw [← (bk_bijective d q).sum_comp fun c => XE m c i, Fin.sum_univ_four]
  show XE m q i + XE m (bk d q 1) i + XE m (bk d q 2) i + XE m (bk d q 3) i = XE m (bk d q 0) i + XE m (bk d q 1) i + XE m (bk d q 2) i + XE m (bk d q 3) i
  rw [bk_zero]

/-- The whole array of which every device holds one block. -/
abbrev Whole : Type := (⟨3, ![4, 4096, 2048]⟩ : Shape).Idx → EReal

theorem reduces : (⟨3, ![4, 4096, 2048]⟩ : Shape).Reduces [0] ⟨2, ![4096, 2048]⟩ := by decide

/-- Device `c`'s argument is slab `c` of the whole. -/
theorem X_eq (V : Whole) (c : Dev nD) (h : m (xLoc c) = Layout.block ⟨3, ![1, 4096, 2048]⟩ ⟨3, ![4, 4096, 2048]⟩ 0 4 c V) (i : (S4096x2048 : Shape).Idx) :
    XE m c i = V (reduces.lift i c) := by
  show m (xLoc c) (xQ.view.emb i) = _
  rw [h]
  show V _ = V _
  have he := xQ_emb i
  refine congrArg V (funext fun a => Fin.ext ?_)
  match a with
  | 0 =>
    have h0 : (xQ.view.emb i 0).val = 0 := congrArg Fin.val (Subsingleton.elim (α := Fin 1) (xQ.view.emb i 0) 0)
    show c.val * 1 + (xQ.view.emb i 0).val = c.val
    rw [h0]; omega
  | 1 => exact he.1
  | 2 => exact he.2

/-- What the kernel leaves on every device is what the reference computes from the whole array. -/
theorem out_eq (V : Whole) (h : ∀ c : Dev nD, m (xLoc c) = Layout.block ⟨3, ![1, 4096, 2048]⟩ ⟨3, ![4, 4096, 2048]⟩ 0 4 c V) :
    (outAt m : (⟨2, ![4096, 2048]⟩ : Shape).Idx → EReal)
      = Host.reduceAdd (F := Ideal) (φ := .f32) V (constant Cert.ReferenceIdeal.S_ .f32 0x00000000#32)
          Cert.ReferenceIdeal.Gen.reducesTo_S4x4096x2048_S4096x2048_d0 Cert.ReferenceIdeal.Gen.h_S_ := by
  funext i
  rw [ValueIdx.hostReduceAdd_apply, Ideal.hostReduceAdd_single _ reduces]
  have h0 : ((constant (F := Ideal) Cert.ReferenceIdeal.S_ .f32 0x00000000#32) (Shape.Idx.first Cert.ReferenceIdeal.Gen.h_S_) : EReal) = 0 := Ideal.ofBits_zero_f32
  rw [h0, zero_add]
  have hs : (∑ c : Dev nD, XE m c i) = ∑ c : Dev nD, V (reduces.lift i c) := Finset.sum_congr rfl fun c _ => X_eq m V c (h c) i
  exact (acc_sum m _ _ i).trans hs

end Cert.KernelIdeal.AllReduce
-- ==== Proof.lean ====
/-
# The claims

The proof of `Cert.Claim`: the kernel, its idealization and the reference each run with their arguments unchanged and
every semaphore counter back at zero; the idealization is the kernel's own text; and at extended reals every device's
result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.KernelIdealValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, its argument unchanged, every counter at zero. -/
theorem runs_kernel : Cert.quiescent_Kernel (hKernel := Cert.Kernel.Gen.facts) := fun m g _ =>
  (θ_run Cert.Kernel.defs _ _).mono (fun _ h => ⟨fun c => (h.1 c).2, h.2⟩) (Cert.Kernel.AllReduce.run_main (F := Bits) m g)

/-- So does its idealization. -/
theorem runs_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.AllReduce.run_main (F := Ideal) m g)

/-- So does the reference, which declares no semaphore. -/
theorem runs_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- At extended reals every device ends with the reference's result. -/
theorem same_values : Cert.algebraic_KernelIdeal_ReferenceIdeal (hKernelIdeal := Cert.KernelIdeal.Gen.facts) (hReferenceIdeal := Cert.ReferenceIdeal.Gen.facts) :=
  fun m g m' g' _ hag =>
    ⟨Cert.KernelIdeal.AllReduce.outAt m,
      (θ_run Cert.KernelIdeal.defs _ _).mono
        (fun _ h c => ⟨((h.1 c).1 (0 : Fin 1)).trans (Cert.KernelIdeal.AllReduce.finalA_eq m g c), (h.1 c).2⟩)
        (Cert.KernelIdeal.AllReduce.run_main (F := Ideal) m g),
      (θ_run Cert.ReferenceIdeal.defs _ _).mono
        (fun _ h => ⟨(h 0).1.trans (Cert.KernelIdeal.AllReduce.out_eq m _ hag).symm, (h 0).2⟩)
        (Cert.ReferenceIdeal.Value.run (F := Ideal) m' g')⟩

theorem claim : Cert.Claim :=
  ⟨Cert.Kernel.Gen.facts, Cert.KernelIdeal.Gen.facts, Cert.ReferenceIdeal.Gen.facts,
    runs_kernel, runs_kernelIdeal, runs_reference, trivial, same_values⟩

end Cert.Proof

end
